-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sorted_ids [hPre_sorted_ids : Cert.Pre_sorted_ids.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_ids [hPre_sorted_ids : Cert.Pre_sorted_ids.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_sorted_ids [hKernelIdeal : Cert.KernelIdeal.Facts] [hPre_sorted_ids : Cert.Pre_sorted_ids.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_ids m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_sorted_ids [hReferenceIdeal : Cert.ReferenceIdeal.Facts] [hPre_sorted_ids : Cert.Pre_sorted_ids.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_ids m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_sorted_ids [hKernelIdeal : Cert.KernelIdeal.Facts] [hReferenceIdeal : Cert.ReferenceIdeal.Facts] [hPre_sorted_ids : Cert.Pre_sorted_ids.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_ids m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_sorted_ids : Cert.Pre_sorted_ids.Facts),
    quiescent_Kernel (hKernel := hKernel)
    ∧ quiescent_KernelIdeal (hKernelIdeal := hKernelIdeal)
    ∧ quiescent_KernelIdeal_pre_sorted_ids (hKernelIdeal := hKernelIdeal) (hPre_sorted_ids := hPre_sorted_ids)
    ∧ quiescent_ReferenceIdeal (hReferenceIdeal := hReferenceIdeal)
    ∧ quiescent_ReferenceIdeal_pre_sorted_ids (hReferenceIdeal := hReferenceIdeal) (hPre_sorted_ids := hPre_sorted_ids)
    ∧ preserves_Kernel_KernelIdeal
    ∧ algebraic_KernelIdeal_ReferenceIdeal_pre_sorted_ids (hKernelIdeal := hKernelIdeal) (hReferenceIdeal := hReferenceIdeal) (hPre_sorted_ids := hPre_sorted_ids)
-- ==== Pre_sorted_ids.lean ====
abbrev S16384x512 : Shape := ⟨2, ![16384, 512]⟩
abbrev S16384 : Shape := ⟨1, ![16384]⟩
abbrev S_ : Shape := ⟨0, ![]⟩
abbrev S16383 : Shape := ⟨1, ![16383]⟩

class Facts : Prop where
  bcast_S_S16384 : S_.BroadcastsInDim S16384 (![] : Fin 0 → Fin S16384.rank)
  reducesTo_S16384_S_d0 : S16384.ReducesTo [0] S_
  h_S_ : 0 < S_.numel
  slices_S16384_S16383_0 : S16384.Slices ![0] S16383
  slices_S16384_S16383_1 : S16384.Slices ![1] S16383
  reducesTo_S16383_S_d0 : S16383.ReducesTo [0] S_

variable [Facts]

def fn {F : FTy → Type} [FloatOps F] (main_arg0 : FVec F S16384x512 .f32) (main_arg1 : IVec S16384 32) : IVec S_ 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 1 := constantI S_ 1 1#1
  let main_v2 : IVec S_ 1 := (fun x v => Host.reduce IntOp.andi x v reducesTo_S16384_S_d0 h_S_) main_v1 main_c_0
  let main_c_1 : IVec S_ 32 := constantI S_ 32 16#32
  let main_v3 : IVec S16384 32 := broadcastInDim S16384 ![] bcast_S_S16384 main_c_1
  let main_v4 : IVec S16384 1 := cmpi .slt main_arg1 main_v3
  let main_c_2 : IVec S_ 1 := constantI S_ 1 1#1
  let main_v5 : IVec S_ 1 := (fun x v => Host.reduce IntOp.andi x v reducesTo_S16384_S_d0 h_S_) main_v4 main_c_2
  let main_v6 : IVec S_ 1 := andi main_v2 main_v5
  let main_v7 : IVec S16383 32 := (extractStridedSlice S16383 ![0] · slices_S16384_S16383_0) main_arg1
  let main_v8 : IVec S16383 32 := (extractStridedSlice S16383 ![1] · slices_S16384_S16383_1) main_arg1
  let main_v9 : IVec S16383 1 := cmpi .sle main_v7 main_v8
  let main_c_3 : IVec S_ 1 := constantI S_ 1 1#1
  let main_v10 : IVec S_ 1 := (fun x v => Host.reduce IntOp.andi x v reducesTo_S16383_S_d0 h_S_) main_v9 main_c_3
  let main_v11 : IVec S_ 1 := andi main_v6 main_v10
  main_v11
-- ==== Kernel.lean ====
abbrev S16384x512 : Shape := ⟨2, ![16384, 512]⟩
abbrev S16384 : Shape := ⟨1, ![16384]⟩
abbrev S16384x1 : Shape := ⟨2, ![16384, 1]⟩
abbrev S512x512 : Shape := ⟨2, ![512, 512]⟩
abbrev S8x128 : Shape := ⟨2, ![8, 128]⟩
abbrev S4 : Shape := ⟨1, ![4]⟩
abbrev S512x128 : Shape := ⟨2, ![512, 128]⟩
abbrev S512x1 : Shape := ⟨2, ![512, 1]⟩
abbrev S512 : Shape := ⟨1, ![512]⟩
abbrev S128 : Shape := ⟨1, ![128]⟩
abbrev S1x128 : Shape := ⟨2, ![1, 128]⟩
abbrev S1x512x1 : Shape := ⟨3, ![1, 512, 1]⟩
abbrev S1 : Shape := ⟨1, ![1]⟩
abbrev S1x1x1 : Shape := ⟨3, ![1, 1, 1]⟩
abbrev S_ : Shape := ⟨0, ![]⟩

abbrev nBuf : Space → Nat
  | .hbm => 4
  | .vmem => 10
  | .smem => 1
  | _ => 0

abbrev bufTy : (tb : Table) → Fin (tcTables nBuf tb) → BufTy
  | .hbm, ⟨0, _⟩ => ⟨S16384x512, .f32⟩
  | .hbm, ⟨1, _⟩ => ⟨S16384, .i32⟩
  | .hbm, ⟨2, _⟩ => ⟨S16384x1, .i32⟩
  | .hbm, ⟨3, _⟩ => ⟨S16384x512, .f32⟩
  | .local _ .vmem, ⟨0, _⟩ => ⟨S512x512, .f32⟩
  | .local _ .vmem, ⟨1, _⟩ => ⟨S512x512, .f32⟩
  | .local _ .vmem, ⟨2, _⟩ => ⟨S16384x1, .i32⟩
  | .local _ .vmem, ⟨3, _⟩ => ⟨S16384x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S8x128, .f32⟩
  | .local _ .vmem, ⟨9, _⟩ => ⟨S8x128, .f32⟩
  | .local _ .smem, ⟨0, _⟩ => ⟨S4, .i32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.smem, 0, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c512_i32 : BitVec 32 := 512#32
  let v1 : BitVec 32 := Scalar.muli arg0 c512_i32
  v1
def k0_off1 (i : grid0.Coords) : Fin 2 → Nat :=
  let arg0 : BitVec 32 := BitVec.ofNat 32 (i 0).val
  let c512_i32 : BitVec 32 := 512#32
  let v1 : BitVec 32 := Scalar.muli arg0 c512_i32
  let v2 : BitVec 32 := v1
  let v3 : Index := Scalar.indexCast v2
  let c0 : Index := 0#32
  ![v3.toNat, 0]
def k0_off2 (i : grid0.Coords) : Fin 2 → Nat :=
  let arg0 : BitVec 32 := BitVec.ofNat 32 (i 0).val
  let c512_i32 : BitVec 32 := 512#32
  let v1 : BitVec 32 := Scalar.muli arg0 c512_i32
  let v2 : BitVec 32 := v1
  let v9 : Index := Scalar.indexCast v2
  let c0_2 : Index := 0#32
  ![v9.toNat, 0]
@[reducible] def k0_t1_loop (i : grid0.Coords) (v38 : BitVec 32) (v50 : BitVec 32) (v51 : BitVec 32) (v52 : BitVec 32) (v79 : BitVec 32) : Scf.Loop 32 :=
  let arg0 : BitVec 32 := BitVec.ofNat 32 (i 0).val
  let c0_i32_24 : BitVec 32 := 0#32
  let v78 : BitVec 1 := Scalar.cmpi .eq arg0 c0_i32_24
  let c0_i32_26 : BitVec 32 := 0#32
  let v80 : BitVec 32 := Scalar.select v78 c0_i32_26 v79
  let c31_i32 : BitVec 32 := 31#32
  let v59 : BitVec 1 := Scalar.cmpi .eq arg0 c31_i32
  let c16384_i32_17 : BitVec 32 := 16384#32
  let c0_i32_14 : BitVec 32 := 0#32
  let v53 : BitVec 1 := Scalar.cmpi .sgt arg0 c0_i32_14
  let v54 : BitVec 1 := Scalar.cmpi .eq v38 v52
  let v55 : BitVec 1 := Scalar.andi v53 v54
  let v56 : BitVec 32 := Scalar.select v55 v51 v50
  let v60 : BitVec 32 := Scalar.select v59 c16384_i32_17 v56
  let c0_i32_19 : BitVec 32 := 0#32
  let v62 : BitVec 1 := Scalar.cmpi .sgt v60 c0_i32_19
  let v63 : BitVec 32 := Scalar.extui v62
  let c0_i32_20 : BitVec 32 := 0#32
  let v64 : BitVec 1 := Scalar.cmpi .slt v60 c0_i32_20
  let v65 : BitVec 32 := Scalar.extui v64
  let v66 : BitVec 32 := Scalar.subi v63 v65
  let c512_i32_18 : BitVec 32 := 512#32
  let c0_i32_21 : BitVec 32 := 0#32
  let v67 : BitVec 1 := Scalar.cmpi .sgt c512_i32_18 c0_i32_21
  let v68 : BitVec 32 := Scalar.extui v67
  let c0_i32_22 : BitVec 32 := 0#32
  let v69 : BitVec 1 := Scalar.cmpi .slt c512_i32_18 c0_i32_22
  let v70 : BitVec 32 := Scalar.extui v69
  let v71 : BitVec 32 := Scalar.subi v68 v70
  let v72 : BitVec 1 := Scalar.cmpi .ne v66 v71
  let v73 : BitVec 32 := Scalar.remsi v60 c512_i32_18
  let c0_i32_23 : BitVec 32 := 0#32
  let v74 : BitVec 1 := Scalar.cmpi .ne v73 c0_i32_23
  let v75 : BitVec 1 := Scalar.andi v72 v74
  let v61 : BitVec 32 := Scalar.divsi v60 c512_i32_18
  let c1_i32 : BitVec 32 := 1#32
  let v76 : BitVec 32 := Scalar.subi v61 c1_i32
  let v77 : BitVec 32 := Scalar.select v75 v76 v61
  let v81 : BitVec 32 := Scalar.subi v77 v80
  let c1_i32_28 : BitVec 32 := 1#32
  let v83 : BitVec 32 := Scalar.divsi v81 c1_i32_28
  let v84 : BitVec 32 := Scalar.muli v83 c1_i32_28
  let v85 : BitVec 32 := Scalar.addi v80 v84
  let c1_i32_29 : BitVec 32 := 1#32
  ⟨v80, v85, c1_i32_29⟩

def k0_mult2 (i : grid0.Coords) (v38 : BitVec 32) (v50 : BitVec 32) (v51 : BitVec 32) (v52 : BitVec 32) (v79 : BitVec 32) (k0_t1 : Fin (k0_t1_loop i v38 v50 v51 v52 v79).trips) : BitVec 32 :=
  let arg0 : BitVec 32 := BitVec.ofNat 32 (i 0).val
  let c0_i32_24 : BitVec 32 := 0#32
  let v78 : BitVec 1 := Scalar.cmpi .eq arg0 c0_i32_24
  let c0_i32_26 : BitVec 32 := 0#32
  let v80 : BitVec 32 := Scalar.select v78 c0_i32_26 v79
  let c1_i32_29 : BitVec 32 := 1#32
  let arg13 : BitVec 32 := Scf.iv v80 c1_i32_29 k0_t1
  let c512_i32_34 : BitVec 32 := 512#32
  let v90 : BitVec 32 := Scalar.muli arg13 c512_i32_34
  v90
def k0_off3 (i : grid0.Coords) (v38 : BitVec 32) (v50 : BitVec 32) (v51 : BitVec 32) (v52 : BitVec 32) (v79 : BitVec 32) (k0_t1 : Fin (k0_t1_loop i v38 v50 v51 v52 v79).trips) : Fin 2 → Nat :=
  let arg0 : BitVec 32 := BitVec.ofNat 32 (i 0).val
  let c0_i32_24 : BitVec 32 := 0#32
  let v78 : BitVec 1 := Scalar.cmpi .eq arg0 c0_i32_24
  let c0_i32_26 : BitVec 32 := 0#32
  let v80 : BitVec 32 := Scalar.select v78 c0_i32_26 v79
  let c1_i32_29 : BitVec 32 := 1#32
  let arg13 : BitVec 32 := Scf.iv v80 c1_i32_29 k0_t1
  let c512_i32_34 : BitVec 32 := 512#32
  let v90 : BitVec 32 := Scalar.muli arg13 c512_i32_34
  let v91 : BitVec 32 := v90
  let v92 : Index := Scalar.indexCast v91
  let c0_35 : Index := 0#32
  ![v92.toNat, 0]
def k0_off4 (i : grid0.Coords) (v38 : BitVec 32) (v50 : BitVec 32) (v51 : BitVec 32) (v52 : BitVec 32) (v79 : BitVec 32) (k0_t1 : Fin (k0_t1_loop i v38 v50 v51 v52 v79).trips) : Fin 2 → Nat :=
  let arg0 : BitVec 32 := BitVec.ofNat 32 (i 0).val
  let c0_i32_24 : BitVec 32 := 0#32
  let v78 : BitVec 1 := Scalar.cmpi .eq arg0 c0_i32_24
  let c0_i32_26 : BitVec 32 := 0#32
  let v80 : BitVec 32 := Scalar.select v78 c0_i32_26 v79
  let c1_i32_29 : BitVec 32 := 1#32
  let arg13 : BitVec 32 := Scf.iv v80 c1_i32_29 k0_t1
  let c512_i32_34 : BitVec 32 := 512#32
  let v90 : BitVec 32 := Scalar.muli arg13 c512_i32_34
  let v91 : BitVec 32 := v90
  let v116 : Index := Scalar.indexCast v91
  let c0_46 : Index := 0#32
  ![v116.toNat, 0]
def k0_off5 (i : grid0.Coords) (v38 : BitVec 32) (v50 : BitVec 32) (v51 : BitVec 32) (v52 : BitVec 32) (v79 : BitVec 32) (k0_t1 : Fin (k0_t1_loop i v38 v50 v51 v52 v79).trips) : Fin 2 → Nat :=
  let arg0 : BitVec 32 := BitVec.ofNat 32 (i 0).val
  let c0_i32_24 : BitVec 32 := 0#32
  let v78 : BitVec 1 := Scalar.cmpi .eq arg0 c0_i32_24
  let c0_i32_26 : BitVec 32 := 0#32
  let v80 : BitVec 32 := Scalar.select v78 c0_i32_26 v79
  let c1_i32_29 : BitVec 32 := 1#32
  let arg13 : BitVec 32 := Scf.iv v80 c1_i32_29 k0_t1
  let c512_i32_34 : BitVec 32 := 512#32
  let v90 : BitVec 32 := Scalar.muli arg13 c512_i32_34
  let v91 : BitVec 32 := v90
  let c0_i32_63 : BitVec 32 := 0#32
  ![v91.toNat, 0]
def k0_cond3 (i : grid0.Coords) (v38 : BitVec 32) (v50 : BitVec 32) (v51 : BitVec 32) (v52 : BitVec 32) (v79 : BitVec 32) (k0_t1 : Fin (k0_t1_loop i v38 v50 v51 v52 v79).trips) : BitVec 1 :=
  let arg0 : BitVec 32 := BitVec.ofNat 32 (i 0).val
  let c0_i32_24 : BitVec 32 := 0#32
  let v78 : BitVec 1 := Scalar.cmpi .eq arg0 c0_i32_24
  let c0_i32_26 : BitVec 32 := 0#32
  let v80 : BitVec 32 := Scalar.select v78 c0_i32_26 v79
  let c1_i32_29 : BitVec 32 := 1#32
  let arg13 : BitVec 32 := Scf.iv v80 c1_i32_29 k0_t1
  let c4_i32 : BitVec 32 := 4#32
  let c0_i32_47 : BitVec 32 := 0#32
  let v122 : BitVec 1 := Scalar.cmpi .eq c4_i32 c0_i32_47
  let c1_i32_48 : BitVec 32 := 1#32
  let v123 : BitVec 32 := Scalar.select v122 c1_i32_48 c4_i32
  let v124 : BitVec 32 := Scalar.remsi arg13 v123
  let c0_i32_50 : BitVec 32 := 0#32
  let v126 : BitVec 1 := Scalar.cmpi .slt v124 c0_i32_50
  let c0_i32_51 : BitVec 32 := 0#32
  let v127 : BitVec 1 := Scalar.cmpi .slt v123 c0_i32_51
  let v128 : BitVec 1 := Scalar.xori v126 v127
  let c0_i32_49 : BitVec 32 := 0#32
  let v125 : BitVec 1 := Scalar.cmpi .ne v124 c0_i32_49
  let v129 : BitVec 1 := Scalar.andi v128 v125
  let v130 : BitVec 32 := Scalar.addi v124 v123
  let v131 : BitVec 32 := Scalar.select v129 v130 v124
  let c0_i32_52 : BitVec 32 := 0#32
  let v132 : BitVec 32 := Scalar.maxsi v131 c0_i32_52
  let c3_i32 : BitVec 32 := 3#32
  let v133 : BitVec 32 := Scalar.minsi v132 c3_i32
  let c0_i32_53 : BitVec 32 := 0#32
  let v134 : BitVec 1 := Scalar.cmpi .ne v133 c0_i32_53
  v134

def k0_cond4 (i : grid0.Coords) (v38 : BitVec 32) (v50 : BitVec 32) (v51 : BitVec 32) (v52 : BitVec 32) (v79 : BitVec 32) (k0_t1 : Fin (k0_t1_loop i v38 v50 v51 v52 v79).trips) : BitVec 1 :=
  let arg0 : BitVec 32 := BitVec.ofNat 32 (i 0).val
  let c0_i32_24 : BitVec 32 := 0#32
  let v78 : BitVec 1 := Scalar.cmpi .eq arg0 c0_i32_24
  let c0_i32_26 : BitVec 32 := 0#32
  let v80 : BitVec 32 := Scalar.select v78 c0_i32_26 v79
  let c1_i32_29 : BitVec 32 := 1#32
  let arg13 : BitVec 32 := Scf.iv v80 c1_i32_29 k0_t1
  let c4_i32 : BitVec 32 := 4#32
  let c0_i32_47 : BitVec 32 := 0#32
  let v122 : BitVec 1 := Scalar.cmpi .eq c4_i32 c0_i32_47
  let c1_i32_48 : BitVec 32 := 1#32
  let v123 : BitVec 32 := Scalar.select v122 c1_i32_48 c4_i32
  let v124 : BitVec 32 := Scalar.remsi arg13 v123
  let c0_i32_50 : BitVec 32 := 0#32
  let v126 : BitVec 1 := Scalar.cmpi .slt v124 c0_i32_50
  let c0_i32_51 : BitVec 32 := 0#32
  let v127 : BitVec 1 := Scalar.cmpi .slt v123 c0_i32_51
  let v128 : BitVec 1 := Scalar.xori v126 v127
  let c0_i32_49 : BitVec 32 := 0#32
  let v125 : BitVec 1 := Scalar.cmpi .ne v124 c0_i32_49
  let v129 : BitVec 1 := Scalar.andi v128 v125
  let v130 : BitVec 32 := Scalar.addi v124 v123
  let v131 : BitVec 32 := Scalar.select v129 v130 v124
  let c0_i32_52 : BitVec 32 := 0#32
  let v132 : BitVec 32 := Scalar.maxsi v131 c0_i32_52
  let c3_i32 : BitVec 32 := 3#32
  let v133 : BitVec 32 := Scalar.minsi v132 c3_i32
  let c1_i32_54 : BitVec 32 := 1#32
  let v135 : BitVec 32 := Scalar.subi v133 c1_i32_54
  let c0_i32_55 : BitVec 32 := 0#32
  let v136 : BitVec 1 := Scalar.cmpi .ne v135 c0_i32_55
  v136

def k0_cond5 (i : grid0.Coords) (v38 : BitVec 32) (v50 : BitVec 32) (v51 : BitVec 32) (v52 : BitVec 32) (v79 : BitVec 32) (k0_t1 : Fin (k0_t1_loop i v38 v50 v51 v52 v79).trips) : BitVec 1 :=
  let arg0 : BitVec 32 := BitVec.ofNat 32 (i 0).val
  let c0_i32_24 : BitVec 32 := 0#32
  let v78 : BitVec 1 := Scalar.cmpi .eq arg0 c0_i32_24
  let c0_i32_26 : BitVec 32 := 0#32
  let v80 : BitVec 32 := Scalar.select v78 c0_i32_26 v79
  let c1_i32_29 : BitVec 32 := 1#32
  let arg13 : BitVec 32 := Scf.iv v80 c1_i32_29 k0_t1
  let c4_i32 : BitVec 32 := 4#32
  let c0_i32_47 : BitVec 32 := 0#32
  let v122 : BitVec 1 := Scalar.cmpi .eq c4_i32 c0_i32_47
  let c1_i32_48 : BitVec 32 := 1#32
  let v123 : BitVec 32 := Scalar.select v122 c1_i32_48 c4_i32
  let v124 : BitVec 32 := Scalar.remsi arg13 v123
  let c0_i32_50 : BitVec 32 := 0#32
  let v126 : BitVec 1 := Scalar.cmpi .slt v124 c0_i32_50
  let c0_i32_51 : BitVec 32 := 0#32
  let v127 : BitVec 1 := Scalar.cmpi .slt v123 c0_i32_51
  let v128 : BitVec 1 := Scalar.xori v126 v127
  let c0_i32_49 : BitVec 32 := 0#32
  let v125 : BitVec 1 := Scalar.cmpi .ne v124 c0_i32_49
  let v129 : BitVec 1 := Scalar.andi v128 v125
  let v130 : BitVec 32 := Scalar.addi v124 v123
  let v131 : BitVec 32 := Scalar.select v129 v130 v124
  let c0_i32_52 : BitVec 32 := 0#32
  let v132 : BitVec 32 := Scalar.maxsi v131 c0_i32_52
  let c3_i32 : BitVec 32 := 3#32
  let v133 : BitVec 32 := Scalar.minsi v132 c3_i32
  let c1_i32_54 : BitVec 32 := 1#32
  let v135 : BitVec 32 := Scalar.subi v133 c1_i32_54
  let c1_i32_56 : BitVec 32 := 1#32
  let v137 : BitVec 32 := Scalar.subi v135 c1_i32_56
  let c0_i32_57 : BitVec 32 := 0#32
  let v138 : BitVec 1 := Scalar.cmpi .ne v137 c0_i32_57
  v138

def k0_off6 (i : grid0.Coords) (v38 : BitVec 32) (v50 : BitVec 32) (v51 : BitVec 32) (v52 : BitVec 32) (v79 : BitVec 32) (k0_t1 : Fin (k0_t1_loop i v38 v50 v51 v52 v79).trips) : Fin 2 → Nat :=
  let arg0 : BitVec 32 := BitVec.ofNat 32 (i 0).val
  let c0_i32_24 : BitVec 32 := 0#32
  let v78 : BitVec 1 := Scalar.cmpi .eq arg0 c0_i32_24
  let c0_i32_26 : BitVec 32 := 0#32
  let v80 : BitVec 32 := Scalar.select v78 c0_i32_26 v79
  let c1_i32_29 : BitVec 32 := 1#32
  let arg13 : BitVec 32 := Scf.iv v80 c1_i32_29 k0_t1
  let c512_i32_34 : BitVec 32 := 512#32
  let v90 : BitVec 32 := Scalar.muli arg13 c512_i32_34
  let v91 : BitVec 32 := v90
  let c0_i32_62 : BitVec 32 := 0#32
  ![v91.toNat, 0]
def k0_off7 (i : grid0.Coords) (v38 : BitVec 32) (v50 : BitVec 32) (v51 : BitVec 32) (v52 : BitVec 32) (v79 : BitVec 32) (k0_t1 : Fin (k0_t1_loop i v38 v50 v51 v52 v79).trips) : Fin 2 → Nat :=
  let arg0 : BitVec 32 := BitVec.ofNat 32 (i 0).val
  let c0_i32_24 : BitVec 32 := 0#32
  let v78 : BitVec 1 := Scalar.cmpi .eq arg0 c0_i32_24
  let c0_i32_26 : BitVec 32 := 0#32
  let v80 : BitVec 32 := Scalar.select v78 c0_i32_26 v79
  let c1_i32_29 : BitVec 32 := 1#32
  let arg13 : BitVec 32 := Scf.iv v80 c1_i32_29 k0_t1
  let c512_i32_34 : BitVec 32 := 512#32
  let v90 : BitVec 32 := Scalar.muli arg13 c512_i32_34
  let v91 : BitVec 32 := v90
  let c0_i32_61 : BitVec 32 := 0#32
  ![v91.toNat, 0]
def k0_off8 (i : grid0.Coords) (v38 : BitVec 32) (v50 : BitVec 32) (v51 : BitVec 32) (v52 : BitVec 32) (v79 : BitVec 32) (k0_t1 : Fin (k0_t1_loop i v38 v50 v51 v52 v79).trips) : Fin 2 → Nat :=
  let arg0 : BitVec 32 := BitVec.ofNat 32 (i 0).val
  let c0_i32_24 : BitVec 32 := 0#32
  let v78 : BitVec 1 := Scalar.cmpi .eq arg0 c0_i32_24
  let c0_i32_26 : BitVec 32 := 0#32
  let v80 : BitVec 32 := Scalar.select v78 c0_i32_26 v79
  let c1_i32_29 : BitVec 32 := 1#32
  let arg13 : BitVec 32 := Scf.iv v80 c1_i32_29 k0_t1
  let c512_i32_34 : BitVec 32 := 512#32
  let v90 : BitVec 32 := Scalar.muli arg13 c512_i32_34
  let v91 : BitVec 32 := v90
  let c0_i32_59 : BitVec 32 := 0#32
  ![v91.toNat, 0]
@[reducible] def k0_t2_loop (i : grid0.Coords) (v38 : BitVec 32) (v50 : BitVec 32) (v51 : BitVec 32) (v52 : BitVec 32) (v79 : BitVec 32) : Scf.Loop 32 :=
  let arg0 : BitVec 32 := BitVec.ofNat 32 (i 0).val
  let c0_i32_24 : BitVec 32 := 0#32
  let v78 : BitVec 1 := Scalar.cmpi .eq arg0 c0_i32_24
  let c0_i32_26 : BitVec 32 := 0#32
  let v80 : BitVec 32 := Scalar.select v78 c0_i32_26 v79
  let c31_i32 : BitVec 32 := 31#32
  let v59 : BitVec 1 := Scalar.cmpi .eq arg0 c31_i32
  let c16384_i32_17 : BitVec 32 := 16384#32
  let c0_i32_14 : BitVec 32 := 0#32
  let v53 : BitVec 1 := Scalar.cmpi .sgt arg0 c0_i32_14
  let v54 : BitVec 1 := Scalar.cmpi .eq v38 v52
  let v55 : BitVec 1 := Scalar.andi v53 v54
  let v56 : BitVec 32 := Scalar.select v55 v51 v50
  let v60 : BitVec 32 := Scalar.select v59 c16384_i32_17 v56
  let c0_i32_19 : BitVec 32 := 0#32
  let v62 : BitVec 1 := Scalar.cmpi .sgt v60 c0_i32_19
  let v63 : BitVec 32 := Scalar.extui v62
  let c0_i32_20 : BitVec 32 := 0#32
  let v64 : BitVec 1 := Scalar.cmpi .slt v60 c0_i32_20
  let v65 : BitVec 32 := Scalar.extui v64
  let v66 : BitVec 32 := Scalar.subi v63 v65
  let c512_i32_18 : BitVec 32 := 512#32
  let c0_i32_21 : BitVec 32 := 0#32
  let v67 : BitVec 1 := Scalar.cmpi .sgt c512_i32_18 c0_i32_21
  let v68 : BitVec 32 := Scalar.extui v67
  let c0_i32_22 : BitVec 32 := 0#32
  let v69 : BitVec 1 := Scalar.cmpi .slt c512_i32_18 c0_i32_22
  let v70 : BitVec 32 := Scalar.extui v69
  let v71 : BitVec 32 := Scalar.subi v68 v70
  let v72 : BitVec 1 := Scalar.cmpi .ne v66 v71
  let v73 : BitVec 32 := Scalar.remsi v60 c512_i32_18
  let c0_i32_23 : BitVec 32 := 0#32
  let v74 : BitVec 1 := Scalar.cmpi .ne v73 c0_i32_23
  let v75 : BitVec 1 := Scalar.andi v72 v74
  let v61 : BitVec 32 := Scalar.divsi v60 c512_i32_18
  let c1_i32 : BitVec 32 := 1#32
  let v76 : BitVec 32 := Scalar.subi v61 c1_i32
  let v77 : BitVec 32 := Scalar.select v75 v76 v61
  let v81 : BitVec 32 := Scalar.subi v77 v80
  let c1_i32_28 : BitVec 32 := 1#32
  let v83 : BitVec 32 := Scalar.divsi v81 c1_i32_28
  let v84 : BitVec 32 := Scalar.muli v83 c1_i32_28
  let v85 : BitVec 32 := Scalar.addi v80 v84
  let v82 : BitVec 32 := Scalar.addi v80 v81
  let c1_i32_30 : BitVec 32 := 1#32
  ⟨v85, v82, c1_i32_30⟩
def k0_mult3 (i : grid0.Coords) (v38 : BitVec 32) (v50 : BitVec 32) (v51 : BitVec 32) (v52 : BitVec 32) (v79 : BitVec 32) (k0_t2 : Fin (k0_t2_loop i v38 v50 v51 v52 v79).trips) : BitVec 32 :=
  let arg0 : BitVec 32 := BitVec.ofNat 32 (i 0).val
  let c0_i32_24 : BitVec 32 := 0#32
  let v78 : BitVec 1 := Scalar.cmpi .eq arg0 c0_i32_24
  let c0_i32_26 : BitVec 32 := 0#32
  let v80 : BitVec 32 := Scalar.select v78 c0_i32_26 v79
  let c31_i32 : BitVec 32 := 31#32
  let v59 : BitVec 1 := Scalar.cmpi .eq arg0 c31_i32
  let c16384_i32_17 : BitVec 32 := 16384#32
  let c0_i32_14 : BitVec 32 := 0#32
  let v53 : BitVec 1 := Scalar.cmpi .sgt arg0 c0_i32_14
  let v54 : BitVec 1 := Scalar.cmpi .eq v38 v52
  let v55 : BitVec 1 := Scalar.andi v53 v54
  let v56 : BitVec 32 := Scalar.select v55 v51 v50
  let v60 : BitVec 32 := Scalar.select v59 c16384_i32_17 v56
  let c0_i32_19 : BitVec 32 := 0#32
  let v62 : BitVec 1 := Scalar.cmpi .sgt v60 c0_i32_19
  let v63 : BitVec 32 := Scalar.extui v62
  let c0_i32_20 : BitVec 32 := 0#32
  let v64 : BitVec 1 := Scalar.cmpi .slt v60 c0_i32_20
  let v65 : BitVec 32 := Scalar.extui v64
  let v66 : BitVec 32 := Scalar.subi v63 v65
  let c512_i32_18 : BitVec 32 := 512#32
  let c0_i32_21 : BitVec 32 := 0#32
  let v67 : BitVec 1 := Scalar.cmpi .sgt c512_i32_18 c0_i32_21
  let v68 : BitVec 32 := Scalar.extui v67
  let c0_i32_22 : BitVec 32 := 0#32
  let v69 : BitVec 1 := Scalar.cmpi .slt c512_i32_18 c0_i32_22
  let v70 : BitVec 32 := Scalar.extui v69
  let v71 : BitVec 32 := Scalar.subi v68 v70
  let v72 : BitVec 1 := Scalar.cmpi .ne v66 v71
  let v73 : BitVec 32 := Scalar.remsi v60 c512_i32_18
  let c0_i32_23 : BitVec 32 := 0#32
  let v74 : BitVec 1 := Scalar.cmpi .ne v73 c0_i32_23
  let v75 : BitVec 1 := Scalar.andi v72 v74
  let v61 : BitVec 32 := Scalar.divsi v60 c512_i32_18
  let c1_i32 : BitVec 32 := 1#32
  let v76 : BitVec 32 := Scalar.subi v61 c1_i32
  let v77 : BitVec 32 := Scalar.select v75 v76 v61
  let v81 : BitVec 32 := Scalar.subi v77 v80
  let c1_i32_28 : BitVec 32 := 1#32
  let v83 : BitVec 32 := Scalar.divsi v81 c1_i32_28
  let v84 : BitVec 32 := Scalar.muli v83 c1_i32_28
  let v85 : BitVec 32 := Scalar.addi v80 v84
  let c1_i32_30 : BitVec 32 := 1#32
  let arg13 : BitVec 32 := Scf.iv v85 c1_i32_30 k0_t2
  let c512_i32_34 : BitVec 32 := 512#32
  let v90 : BitVec 32 := Scalar.muli arg13 c512_i32_34
  v90
def k0_off9 (i : grid0.Coords) (v38 : BitVec 32) (v50 : BitVec 32) (v51 : BitVec 32) (v52 : BitVec 32) (v79 : BitVec 32) (k0_t2 : Fin (k0_t2_loop i v38 v50 v51 v52 v79).trips) : Fin 2 → Nat :=
  let arg0 : BitVec 32 := BitVec.ofNat 32 (i 0).val
  let c0_i32_24 : BitVec 32 := 0#32
  let v78 : BitVec 1 := Scalar.cmpi .eq arg0 c0_i32_24
  let c0_i32_26 : BitVec 32 := 0#32
  let v80 : BitVec 32 := Scalar.select v78 c0_i32_26 v79
  let c31_i32 : BitVec 32 := 31#32
  let v59 : BitVec 1 := Scalar.cmpi .eq arg0 c31_i32
  let c16384_i32_17 : BitVec 32 := 16384#32
  let c0_i32_14 : BitVec 32 := 0#32
  let v53 : BitVec 1 := Scalar.cmpi .sgt arg0 c0_i32_14
  let v54 : BitVec 1 := Scalar.cmpi .eq v38 v52
  let v55 : BitVec 1 := Scalar.andi v53 v54
  let v56 : BitVec 32 := Scalar.select v55 v51 v50
  let v60 : BitVec 32 := Scalar.select v59 c16384_i32_17 v56
  let c0_i32_19 : BitVec 32 := 0#32
  let v62 : BitVec 1 := Scalar.cmpi .sgt v60 c0_i32_19
  let v63 : BitVec 32 := Scalar.extui v62
  let c0_i32_20 : BitVec 32 := 0#32
  let v64 : BitVec 1 := Scalar.cmpi .slt v60 c0_i32_20
  let v65 : BitVec 32 := Scalar.extui v64
  let v66 : BitVec 32 := Scalar.subi v63 v65
  let c512_i32_18 : BitVec 32 := 512#32
  let c0_i32_21 : BitVec 32 := 0#32
  let v67 : BitVec 1 := Scalar.cmpi .sgt c512_i32_18 c0_i32_21
  let v68 : BitVec 32 := Scalar.extui v67
  let c0_i32_22 : BitVec 32 := 0#32
  let v69 : BitVec 1 := Scalar.cmpi .slt c512_i32_18 c0_i32_22
  let v70 : BitVec 32 := Scalar.extui v69
  let v71 : BitVec 32 := Scalar.subi v68 v70
  let v72 : BitVec 1 := Scalar.cmpi .ne v66 v71
  let v73 : BitVec 32 := Scalar.remsi v60 c512_i32_18
  let c0_i32_23 : BitVec 32 := 0#32
  let v74 : BitVec 1 := Scalar.cmpi .ne v73 c0_i32_23
  let v75 : BitVec 1 := Scalar.andi v72 v74
  let v61 : BitVec 32 := Scalar.divsi v60 c512_i32_18
  let c1_i32 : BitVec 32 := 1#32
  let v76 : BitVec 32 := Scalar.subi v61 c1_i32
  let v77 : BitVec 32 := Scalar.select v75 v76 v61
  let v81 : BitVec 32 := Scalar.subi v77 v80
  let c1_i32_28 : BitVec 32 := 1#32
  let v83 : BitVec 32 := Scalar.divsi v81 c1_i32_28
  let v84 : BitVec 32 := Scalar.muli v83 c1_i32_28
  let v85 : BitVec 32 := Scalar.addi v80 v84
  let c1_i32_30 : BitVec 32 := 1#32
  let arg13 : BitVec 32 := Scf.iv v85 c1_i32_30 k0_t2
  let c512_i32_34 : BitVec 32 := 512#32
  let v90 : BitVec 32 := Scalar.muli arg13 c512_i32_34
  let v91 : BitVec 32 := v90
  let v92 : Index := Scalar.indexCast v91
  let c0_35 : Index := 0#32
  ![v92.toNat, 0]
def k0_off10 (i : grid0.Coords) (v38 : BitVec 32) (v50 : BitVec 32) (v51 : BitVec 32) (v52 : BitVec 32) (v79 : BitVec 32) (k0_t2 : Fin (k0_t2_loop i v38 v50 v51 v52 v79).trips) : Fin 2 → Nat :=
  let arg0 : BitVec 32 := BitVec.ofNat 32 (i 0).val
  let c0_i32_24 : BitVec 32 := 0#32
  let v78 : BitVec 1 := Scalar.cmpi .eq arg0 c0_i32_24
  let c0_i32_26 : BitVec 32 := 0#32
  let v80 : BitVec 32 := Scalar.select v78 c0_i32_26 v79
  let c31_i32 : BitVec 32 := 31#32
  let v59 : BitVec 1 := Scalar.cmpi .eq arg0 c31_i32
  let c16384_i32_17 : BitVec 32 := 16384#32
  let c0_i32_14 : BitVec 32 := 0#32
  let v53 : BitVec 1 := Scalar.cmpi .sgt arg0 c0_i32_14
  let v54 : BitVec 1 := Scalar.cmpi .eq v38 v52
  let v55 : BitVec 1 := Scalar.andi v53 v54
  let v56 : BitVec 32 := Scalar.select v55 v51 v50
  let v60 : BitVec 32 := Scalar.select v59 c16384_i32_17 v56
  let c0_i32_19 : BitVec 32 := 0#32
  let v62 : BitVec 1 := Scalar.cmpi .sgt v60 c0_i32_19
  let v63 : BitVec 32 := Scalar.extui v62
  let c0_i32_20 : BitVec 32 := 0#32
  let v64 : BitVec 1 := Scalar.cmpi .slt v60 c0_i32_20
  let v65 : BitVec 32 := Scalar.extui v64
  let v66 : BitVec 32 := Scalar.subi v63 v65
  let c512_i32_18 : BitVec 32 := 512#32
  let c0_i32_21 : BitVec 32 := 0#32
  let v67 : BitVec 1 := Scalar.cmpi .sgt c512_i32_18 c0_i32_21
  let v68 : BitVec 32 := Scalar.extui v67
  let c0_i32_22 : BitVec 32 := 0#32
  let v69 : BitVec 1 := Scalar.cmpi .slt c512_i32_18 c0_i32_22
  let v70 : BitVec 32 := Scalar.extui v69
  let v71 : BitVec 32 := Scalar.subi v68 v70
  let v72 : BitVec 1 := Scalar.cmpi .ne v66 v71
  let v73 : BitVec 32 := Scalar.remsi v60 c512_i32_18
  let c0_i32_23 : BitVec 32 := 0#32
  let v74 : BitVec 1 := Scalar.cmpi .ne v73 c0_i32_23
  let v75 : BitVec 1 := Scalar.andi v72 v74
  let v61 : BitVec 32 := Scalar.divsi v60 c512_i32_18
  let c1_i32 : BitVec 32 := 1#32
  let v76 : BitVec 32 := Scalar.subi v61 c1_i32
  let v77 : BitVec 32 := Scalar.select v75 v76 v61
  let v81 : BitVec 32 := Scalar.subi v77 v80
  let c1_i32_28 : BitVec 32 := 1#32
  let v83 : BitVec 32 := Scalar.divsi v81 c1_i32_28
  let v84 : BitVec 32 := Scalar.muli v83 c1_i32_28
  let v85 : BitVec 32 := Scalar.addi v80 v84
  let c1_i32_30 : BitVec 32 := 1#32
  let arg13 : BitVec 32 := Scf.iv v85 c1_i32_30 k0_t2
  let c512_i32_34 : BitVec 32 := 512#32
  let v90 : BitVec 32 := Scalar.muli arg13 c512_i32_34
  let v91 : BitVec 32 := v90
  let v116 : Index := Scalar.indexCast v91
  let c0_46 : Index := 0#32
  ![v116.toNat, 0]
def k0_off11 (i : grid0.Coords) (v38 : BitVec 32) (v50 : BitVec 32) (v51 : BitVec 32) (v52 : BitVec 32) (v79 : BitVec 32) (k0_t2 : Fin (k0_t2_loop i v38 v50 v51 v52 v79).trips) : Fin 2 → Nat :=
  let arg0 : BitVec 32 := BitVec.ofNat 32 (i 0).val
  let c0_i32_24 : BitVec 32 := 0#32
  let v78 : BitVec 1 := Scalar.cmpi .eq arg0 c0_i32_24
  let c0_i32_26 : BitVec 32 := 0#32
  let v80 : BitVec 32 := Scalar.select v78 c0_i32_26 v79
  let c31_i32 : BitVec 32 := 31#32
  let v59 : BitVec 1 := Scalar.cmpi .eq arg0 c31_i32
  let c16384_i32_17 : BitVec 32 := 16384#32
  let c0_i32_14 : BitVec 32 := 0#32
  let v53 : BitVec 1 := Scalar.cmpi .sgt arg0 c0_i32_14
  let v54 : BitVec 1 := Scalar.cmpi .eq v38 v52
  let v55 : BitVec 1 := Scalar.andi v53 v54
  let v56 : BitVec 32 := Scalar.select v55 v51 v50
  let v60 : BitVec 32 := Scalar.select v59 c16384_i32_17 v56
  let c0_i32_19 : BitVec 32 := 0#32
  let v62 : BitVec 1 := Scalar.cmpi .sgt v60 c0_i32_19
  let v63 : BitVec 32 := Scalar.extui v62
  let c0_i32_20 : BitVec 32 := 0#32
  let v64 : BitVec 1 := Scalar.cmpi .slt v60 c0_i32_20
  let v65 : BitVec 32 := Scalar.extui v64
  let v66 : BitVec 32 := Scalar.subi v63 v65
  let c512_i32_18 : BitVec 32 := 512#32
  let c0_i32_21 : BitVec 32 := 0#32
  let v67 : BitVec 1 := Scalar.cmpi .sgt c512_i32_18 c0_i32_21
  let v68 : BitVec 32 := Scalar.extui v67
  let c0_i32_22 : BitVec 32 := 0#32
  let v69 : BitVec 1 := Scalar.cmpi .slt c512_i32_18 c0_i32_22
  let v70 : BitVec 32 := Scalar.extui v69
  let v71 : BitVec 32 := Scalar.subi v68 v70
  let v72 : BitVec 1 := Scalar.cmpi .ne v66 v71
  let v73 : BitVec 32 := Scalar.remsi v60 c512_i32_18
  let c0_i32_23 : BitVec 32 := 0#32
  let v74 : BitVec 1 := Scalar.cmpi .ne v73 c0_i32_23
  let v75 : BitVec 1 := Scalar.andi v72 v74
  let v61 : BitVec 32 := Scalar.divsi v60 c512_i32_18
  let c1_i32 : BitVec 32 := 1#32
  let v76 : BitVec 32 := Scalar.subi v61 c1_i32
  let v77 : BitVec 32 := Scalar.select v75 v76 v61
  let v81 : BitVec 32 := Scalar.subi v77 v80
  let c1_i32_28 : BitVec 32 := 1#32
  let v83 : BitVec 32 := Scalar.divsi v81 c1_i32_28
  let v84 : BitVec 32 := Scalar.muli v83 c1_i32_28
  let v85 : BitVec 32 := Scalar.addi v80 v84
  let c1_i32_30 : BitVec 32 := 1#32
  let arg13 : BitVec 32 := Scf.iv v85 c1_i32_30 k0_t2
  let c512_i32_34 : BitVec 32 := 512#32
  let v90 : BitVec 32 := Scalar.muli arg13 c512_i32_34
  let v91 : BitVec 32 := v90
  let c0_i32_63 : BitVec 32 := 0#32
  ![v91.toNat, 0]
def k0_cond10 (i : grid0.Coords) (v38 : BitVec 32) (v50 : BitVec 32) (v51 : BitVec 32) (v52 : BitVec 32) (v79 : BitVec 32) (k0_t2 : Fin (k0_t2_loop i v38 v50 v51 v52 v79).trips) : BitVec 1 :=
  let arg0 : BitVec 32 := BitVec.ofNat 32 (i 0).val
  let c0_i32_24 : BitVec 32 := 0#32
  let v78 : BitVec 1 := Scalar.cmpi .eq arg0 c0_i32_24
  let c0_i32_26 : BitVec 32 := 0#32
  let v80 : BitVec 32 := Scalar.select v78 c0_i32_26 v79
  let c31_i32 : BitVec 32 := 31#32
  let v59 : BitVec 1 := Scalar.cmpi .eq arg0 c31_i32
  let c16384_i32_17 : BitVec 32 := 16384#32
  let c0_i32_14 : BitVec 32 := 0#32
  let v53 : BitVec 1 := Scalar.cmpi .sgt arg0 c0_i32_14
  let v54 : BitVec 1 := Scalar.cmpi .eq v38 v52
  let v55 : BitVec 1 := Scalar.andi v53 v54
  let v56 : BitVec 32 := Scalar.select v55 v51 v50
  let v60 : BitVec 32 := Scalar.select v59 c16384_i32_17 v56
  let c0_i32_19 : BitVec 32 := 0#32
  let v62 : BitVec 1 := Scalar.cmpi .sgt v60 c0_i32_19
  let v63 : BitVec 32 := Scalar.extui v62
  let c0_i32_20 : BitVec 32 := 0#32
  let v64 : BitVec 1 := Scalar.cmpi .slt v60 c0_i32_20
  let v65 : BitVec 32 := Scalar.extui v64
  let v66 : BitVec 32 := Scalar.subi v63 v65
  let c512_i32_18 : BitVec 32 := 512#32
  let c0_i32_21 : BitVec 32 := 0#32
  let v67 : BitVec 1 := Scalar.cmpi .sgt c512_i32_18 c0_i32_21
  let v68 : BitVec 32 := Scalar.extui v67
  let c0_i32_22 : BitVec 32 := 0#32
  let v69 : BitVec 1 := Scalar.cmpi .slt c512_i32_18 c0_i32_22
  let v70 : BitVec 32 := Scalar.extui v69
  let v71 : BitVec 32 := Scalar.subi v68 v70
  let v72 : BitVec 1 := Scalar.cmpi .ne v66 v71
  let v73 : BitVec 32 := Scalar.remsi v60 c512_i32_18
  let c0_i32_23 : BitVec 32 := 0#32
  let v74 : BitVec 1 := Scalar.cmpi .ne v73 c0_i32_23
  let v75 : BitVec 1 := Scalar.andi v72 v74
  let v61 : BitVec 32 := Scalar.divsi v60 c512_i32_18
  let c1_i32 : BitVec 32 := 1#32
  let v76 : BitVec 32 := Scalar.subi v61 c1_i32
  let v77 : BitVec 32 := Scalar.select v75 v76 v61
  let v81 : BitVec 32 := Scalar.subi v77 v80
  let c1_i32_28 : BitVec 32 := 1#32
  let v83 : BitVec 32 := Scalar.divsi v81 c1_i32_28
  let v84 : BitVec 32 := Scalar.muli v83 c1_i32_28
  let v85 : BitVec 32 := Scalar.addi v80 v84
  let c1_i32_30 : BitVec 32 := 1#32
  let arg13 : BitVec 32 := Scf.iv v85 c1_i32_30 k0_t2
  let c4_i32 : BitVec 32 := 4#32
  let c0_i32_47 : BitVec 32 := 0#32
  let v122 : BitVec 1 := Scalar.cmpi .eq c4_i32 c0_i32_47
  let c1_i32_48 : BitVec 32 := 1#32
  let v123 : BitVec 32 := Scalar.select v122 c1_i32_48 c4_i32
  let v124 : BitVec 32 := Scalar.remsi arg13 v123
  let c0_i32_50 : BitVec 32 := 0#32
  let v126 : BitVec 1 := Scalar.cmpi .slt v124 c0_i32_50
  let c0_i32_51 : BitVec 32 := 0#32
  let v127 : BitVec 1 := Scalar.cmpi .slt v123 c0_i32_51
  let v128 : BitVec 1 := Scalar.xori v126 v127
  let c0_i32_49 : BitVec 32 := 0#32
  let v125 : BitVec 1 := Scalar.cmpi .ne v124 c0_i32_49
  let v129 : BitVec 1 := Scalar.andi v128 v125
  let v130 : BitVec 32 := Scalar.addi v124 v123
  let v131 : BitVec 32 := Scalar.select v129 v130 v124
  let c0_i32_52 : BitVec 32 := 0#32
  let v132 : BitVec 32 := Scalar.maxsi v131 c0_i32_52
  let c3_i32 : BitVec 32 := 3#32
  let v133 : BitVec 32 := Scalar.minsi v132 c3_i32
  let c0_i32_53 : BitVec 32 := 0#32
  let v134 : BitVec 1 := Scalar.cmpi .ne v133 c0_i32_53
  v134

def k0_cond11 (i : grid0.Coords) (v38 : BitVec 32) (v50 : BitVec 32) (v51 : BitVec 32) (v52 : BitVec 32) (v79 : BitVec 32) (k0_t2 : Fin (k0_t2_loop i v38 v50 v51 v52 v79).trips) : BitVec 1 :=
  let arg0 : BitVec 32 := BitVec.ofNat 32 (i 0).val
  let c0_i32_24 : BitVec 32 := 0#32
  let v78 : BitVec 1 := Scalar.cmpi .eq arg0 c0_i32_24
  let c0_i32_26 : BitVec 32 := 0#32
  let v80 : BitVec 32 := Scalar.select v78 c0_i32_26 v79
  let c31_i32 : BitVec 32 := 31#32
  let v59 : BitVec 1 := Scalar.cmpi .eq arg0 c31_i32
  let c16384_i32_17 : BitVec 32 := 16384#32
  let c0_i32_14 : BitVec 32 := 0#32
  let v53 : BitVec 1 := Scalar.cmpi .sgt arg0 c0_i32_14
  let v54 : BitVec 1 := Scalar.cmpi .eq v38 v52
  let v55 : BitVec 1 := Scalar.andi v53 v54
  let v56 : BitVec 32 := Scalar.select v55 v51 v50
  let v60 : BitVec 32 := Scalar.select v59 c16384_i32_17 v56
  let c0_i32_19 : BitVec 32 := 0#32
  let v62 : BitVec 1 := Scalar.cmpi .sgt v60 c0_i32_19
  let v63 : BitVec 32 := Scalar.extui v62
  let c0_i32_20 : BitVec 32 := 0#32
  let v64 : BitVec 1 := Scalar.cmpi .slt v60 c0_i32_20
  let v65 : BitVec 32 := Scalar.extui v64
  let v66 : BitVec 32 := Scalar.subi v63 v65
  let c512_i32_18 : BitVec 32 := 512#32
  let c0_i32_21 : BitVec 32 := 0#32
  let v67 : BitVec 1 := Scalar.cmpi .sgt c512_i32_18 c0_i32_21
  let v68 : BitVec 32 := Scalar.extui v67
  let c0_i32_22 : BitVec 32 := 0#32
  let v69 : BitVec 1 := Scalar.cmpi .slt c512_i32_18 c0_i32_22
  let v70 : BitVec 32 := Scalar.extui v69
  let v71 : BitVec 32 := Scalar.subi v68 v70
  let v72 : BitVec 1 := Scalar.cmpi .ne v66 v71
  let v73 : BitVec 32 := Scalar.remsi v60 c512_i32_18
  let c0_i32_23 : BitVec 32 := 0#32
  let v74 : BitVec 1 := Scalar.cmpi .ne v73 c0_i32_23
  let v75 : BitVec 1 := Scalar.andi v72 v74
  let v61 : BitVec 32 := Scalar.divsi v60 c512_i32_18
  let c1_i32 : BitVec 32 := 1#32
  let v76 : BitVec 32 := Scalar.subi v61 c1_i32
  let v77 : BitVec 32 := Scalar.select v75 v76 v61
  let v81 : BitVec 32 := Scalar.subi v77 v80
  let c1_i32_28 : BitVec 32 := 1#32
  let v83 : BitVec 32 := Scalar.divsi v81 c1_i32_28
  let v84 : BitVec 32 := Scalar.muli v83 c1_i32_28
  let v85 : BitVec 32 := Scalar.addi v80 v84
  let c1_i32_30 : BitVec 32 := 1#32
  let arg13 : BitVec 32 := Scf.iv v85 c1_i32_30 k0_t2
  let c4_i32 : BitVec 32 := 4#32
  let c0_i32_47 : BitVec 32 := 0#32
  let v122 : BitVec 1 := Scalar.cmpi .eq c4_i32 c0_i32_47
  let c1_i32_48 : BitVec 32 := 1#32
  let v123 : BitVec 32 := Scalar.select v122 c1_i32_48 c4_i32
  let v124 : BitVec 32 := Scalar.remsi arg13 v123
  let c0_i32_50 : BitVec 32 := 0#32
  let v126 : BitVec 1 := Scalar.cmpi .slt v124 c0_i32_50
  let c0_i32_51 : BitVec 32 := 0#32
  let v127 : BitVec 1 := Scalar.cmpi .slt v123 c0_i32_51
  let v128 : BitVec 1 := Scalar.xori v126 v127
  let c0_i32_49 : BitVec 32 := 0#32
  let v125 : BitVec 1 := Scalar.cmpi .ne v124 c0_i32_49
  let v129 : BitVec 1 := Scalar.andi v128 v125
  let v130 : BitVec 32 := Scalar.addi v124 v123
  let v131 : BitVec 32 := Scalar.select v129 v130 v124
  let c0_i32_52 : BitVec 32 := 0#32
  let v132 : BitVec 32 := Scalar.maxsi v131 c0_i32_52
  let c3_i32 : BitVec 32 := 3#32
  let v133 : BitVec 32 := Scalar.minsi v132 c3_i32
  let c1_i32_54 : BitVec 32 := 1#32
  let v135 : BitVec 32 := Scalar.subi v133 c1_i32_54
  let c0_i32_55 : BitVec 32 := 0#32
  let v136 : BitVec 1 := Scalar.cmpi .ne v135 c0_i32_55
  v136

def k0_cond12 (i : grid0.Coords) (v38 : BitVec 32) (v50 : BitVec 32) (v51 : BitVec 32) (v52 : BitVec 32) (v79 : BitVec 32) (k0_t2 : Fin (k0_t2_loop i v38 v50 v51 v52 v79).trips) : BitVec 1 :=
  let arg0 : BitVec 32 := BitVec.ofNat 32 (i 0).val
  let c0_i32_24 : BitVec 32 := 0#32
  let v78 : BitVec 1 := Scalar.cmpi .eq arg0 c0_i32_24
  let c0_i32_26 : BitVec 32 := 0#32
  let v80 : BitVec 32 := Scalar.select v78 c0_i32_26 v79
  let c31_i32 : BitVec 32 := 31#32
  let v59 : BitVec 1 := Scalar.cmpi .eq arg0 c31_i32
  let c16384_i32_17 : BitVec 32 := 16384#32
  let c0_i32_14 : BitVec 32 := 0#32
  let v53 : BitVec 1 := Scalar.cmpi .sgt arg0 c0_i32_14
  let v54 : BitVec 1 := Scalar.cmpi .eq v38 v52
  let v55 : BitVec 1 := Scalar.andi v53 v54
  let v56 : BitVec 32 := Scalar.select v55 v51 v50
  let v60 : BitVec 32 := Scalar.select v59 c16384_i32_17 v56
  let c0_i32_19 : BitVec 32 := 0#32
  let v62 : BitVec 1 := Scalar.cmpi .sgt v60 c0_i32_19
  let v63 : BitVec 32 := Scalar.extui v62
  let c0_i32_20 : BitVec 32 := 0#32
  let v64 : BitVec 1 := Scalar.cmpi .slt v60 c0_i32_20
  let v65 : BitVec 32 := Scalar.extui v64
  let v66 : BitVec 32 := Scalar.subi v63 v65
  let c512_i32_18 : BitVec 32 := 512#32
  let c0_i32_21 : BitVec 32 := 0#32
  let v67 : BitVec 1 := Scalar.cmpi .sgt c512_i32_18 c0_i32_21
  let v68 : BitVec 32 := Scalar.extui v67
  let c0_i32_22 : BitVec 32 := 0#32
  let v69 : BitVec 1 := Scalar.cmpi .slt c512_i32_18 c0_i32_22
  let v70 : BitVec 32 := Scalar.extui v69
  let v71 : BitVec 32 := Scalar.subi v68 v70
  let v72 : BitVec 1 := Scalar.cmpi .ne v66 v71
  let v73 : BitVec 32 := Scalar.remsi v60 c512_i32_18
  let c0_i32_23 : BitVec 32 := 0#32
  let v74 : BitVec 1 := Scalar.cmpi .ne v73 c0_i32_23
  let v75 : BitVec 1 := Scalar.andi v72 v74
  let v61 : BitVec 32 := Scalar.divsi v60 c512_i32_18
  let c1_i32 : BitVec 32 := 1#32
  let v76 : BitVec 32 := Scalar.subi v61 c1_i32
  let v77 : BitVec 32 := Scalar.select v75 v76 v61
  let v81 : BitVec 32 := Scalar.subi v77 v80
  let c1_i32_28 : BitVec 32 := 1#32
  let v83 : BitVec 32 := Scalar.divsi v81 c1_i32_28
  let v84 : BitVec 32 := Scalar.muli v83 c1_i32_28
  let v85 : BitVec 32 := Scalar.addi v80 v84
  let c1_i32_30 : BitVec 32 := 1#32
  let arg13 : BitVec 32 := Scf.iv v85 c1_i32_30 k0_t2
  let c4_i32 : BitVec 32 := 4#32
  let c0_i32_47 : BitVec 32 := 0#32
  let v122 : BitVec 1 := Scalar.cmpi .eq c4_i32 c0_i32_47
  let c1_i32_48 : BitVec 32 := 1#32
  let v123 : BitVec 32 := Scalar.select v122 c1_i32_48 c4_i32
  let v124 : BitVec 32 := Scalar.remsi arg13 v123
  let c0_i32_50 : BitVec 32 := 0#32
  let v126 : BitVec 1 := Scalar.cmpi .slt v124 c0_i32_50
  let c0_i32_51 : BitVec 32 := 0#32
  let v127 : BitVec 1 := Scalar.cmpi .slt v123 c0_i32_51
  let v128 : BitVec 1 := Scalar.xori v126 v127
  let c0_i32_49 : BitVec 32 := 0#32
  let v125 : BitVec 1 := Scalar.cmpi .ne v124 c0_i32_49
  let v129 : BitVec 1 := Scalar.andi v128 v125
  let v130 : BitVec 32 := Scalar.addi v124 v123
  let v131 : BitVec 32 := Scalar.select v129 v130 v124
  let c0_i32_52 : BitVec 32 := 0#32
  let v132 : BitVec 32 := Scalar.maxsi v131 c0_i32_52
  let c3_i32 : BitVec 32 := 3#32
  let v133 : BitVec 32 := Scalar.minsi v132 c3_i32
  let c1_i32_54 : BitVec 32 := 1#32
  let v135 : BitVec 32 := Scalar.subi v133 c1_i32_54
  let c1_i32_56 : BitVec 32 := 1#32
  let v137 : BitVec 32 := Scalar.subi v135 c1_i32_56
  let c0_i32_57 : BitVec 32 := 0#32
  let v138 : BitVec 1 := Scalar.cmpi .ne v137 c0_i32_57
  v138

def k0_off12 (i : grid0.Coords) (v38 : BitVec 32) (v50 : BitVec 32) (v51 : BitVec 32) (v52 : BitVec 32) (v79 : BitVec 32) (k0_t2 : Fin (k0_t2_loop i v38 v50 v51 v52 v79).trips) : Fin 2 → Nat :=
  let arg0 : BitVec 32 := BitVec.ofNat 32 (i 0).val
  let c0_i32_24 : BitVec 32 := 0#32
  let v78 : BitVec 1 := Scalar.cmpi .eq arg0 c0_i32_24
  let c0_i32_26 : BitVec 32 := 0#32
  let v80 : BitVec 32 := Scalar.select v78 c0_i32_26 v79
  let c31_i32 : BitVec 32 := 31#32
  let v59 : BitVec 1 := Scalar.cmpi .eq arg0 c31_i32
  let c16384_i32_17 : BitVec 32 := 16384#32
  let c0_i32_14 : BitVec 32 := 0#32
  let v53 : BitVec 1 := Scalar.cmpi .sgt arg0 c0_i32_14
  let v54 : BitVec 1 := Scalar.cmpi .eq v38 v52
  let v55 : BitVec 1 := Scalar.andi v53 v54
  let v56 : BitVec 32 := Scalar.select v55 v51 v50
  let v60 : BitVec 32 := Scalar.select v59 c16384_i32_17 v56
  let c0_i32_19 : BitVec 32 := 0#32
  let v62 : BitVec 1 := Scalar.cmpi .sgt v60 c0_i32_19
  let v63 : BitVec 32 := Scalar.extui v62
  let c0_i32_20 : BitVec 32 := 0#32
  let v64 : BitVec 1 := Scalar.cmpi .slt v60 c0_i32_20
  let v65 : BitVec 32 := Scalar.extui v64
  let v66 : BitVec 32 := Scalar.subi v63 v65
  let c512_i32_18 : BitVec 32 := 512#32
  let c0_i32_21 : BitVec 32 := 0#32
  let v67 : BitVec 1 := Scalar.cmpi .sgt c512_i32_18 c0_i32_21
  let v68 : BitVec 32 := Scalar.extui v67
  let c0_i32_22 : BitVec 32 := 0#32
  let v69 : BitVec 1 := Scalar.cmpi .slt c512_i32_18 c0_i32_22
  let v70 : BitVec 32 := Scalar.extui v69
  let v71 : BitVec 32 := Scalar.subi v68 v70
  let v72 : BitVec 1 := Scalar.cmpi .ne v66 v71
  let v73 : BitVec 32 := Scalar.remsi v60 c512_i32_18
  let c0_i32_23 : BitVec 32 := 0#32
  let v74 : BitVec 1 := Scalar.cmpi .ne v73 c0_i32_23
  let v75 : BitVec 1 := Scalar.andi v72 v74
  let v61 : BitVec 32 := Scalar.divsi v60 c512_i32_18
  let c1_i32 : BitVec 32 := 1#32
  let v76 : BitVec 32 := Scalar.subi v61 c1_i32
  let v77 : BitVec 32 := Scalar.select v75 v76 v61
  let v81 : BitVec 32 := Scalar.subi v77 v80
  let c1_i32_28 : BitVec 32 := 1#32
  let v83 : BitVec 32 := Scalar.divsi v81 c1_i32_28
  let v84 : BitVec 32 := Scalar.muli v83 c1_i32_28
  let v85 : BitVec 32 := Scalar.addi v80 v84
  let c1_i32_30 : BitVec 32 := 1#32
  let arg13 : BitVec 32 := Scf.iv v85 c1_i32_30 k0_t2
  let c512_i32_34 : BitVec 32 := 512#32
  let v90 : BitVec 32 := Scalar.muli arg13 c512_i32_34
  let v91 : BitVec 32 := v90
  let c0_i32_62 : BitVec 32 := 0#32
  ![v91.toNat, 0]
def k0_off13 (i : grid0.Coords) (v38 : BitVec 32) (v50 : BitVec 32) (v51 : BitVec 32) (v52 : BitVec 32) (v79 : BitVec 32) (k0_t2 : Fin (k0_t2_loop i v38 v50 v51 v52 v79).trips) : Fin 2 → Nat :=
  let arg0 : BitVec 32 := BitVec.ofNat 32 (i 0).val
  let c0_i32_24 : BitVec 32 := 0#32
  let v78 : BitVec 1 := Scalar.cmpi .eq arg0 c0_i32_24
  let c0_i32_26 : BitVec 32 := 0#32
  let v80 : BitVec 32 := Scalar.select v78 c0_i32_26 v79
  let c31_i32 : BitVec 32 := 31#32
  let v59 : BitVec 1 := Scalar.cmpi .eq arg0 c31_i32
  let c16384_i32_17 : BitVec 32 := 16384#32
  let c0_i32_14 : BitVec 32 := 0#32
  let v53 : BitVec 1 := Scalar.cmpi .sgt arg0 c0_i32_14
  let v54 : BitVec 1 := Scalar.cmpi .eq v38 v52
  let v55 : BitVec 1 := Scalar.andi v53 v54
  let v56 : BitVec 32 := Scalar.select v55 v51 v50
  let v60 : BitVec 32 := Scalar.select v59 c16384_i32_17 v56
  let c0_i32_19 : BitVec 32 := 0#32
  let v62 : BitVec 1 := Scalar.cmpi .sgt v60 c0_i32_19
  let v63 : BitVec 32 := Scalar.extui v62
  let c0_i32_20 : BitVec 32 := 0#32
  let v64 : BitVec 1 := Scalar.cmpi .slt v60 c0_i32_20
  let v65 : BitVec 32 := Scalar.extui v64
  let v66 : BitVec 32 := Scalar.subi v63 v65
  let c512_i32_18 : BitVec 32 := 512#32
  let c0_i32_21 : BitVec 32 := 0#32
  let v67 : BitVec 1 := Scalar.cmpi .sgt c512_i32_18 c0_i32_21
  let v68 : BitVec 32 := Scalar.extui v67
  let c0_i32_22 : BitVec 32 := 0#32
  let v69 : BitVec 1 := Scalar.cmpi .slt c512_i32_18 c0_i32_22
  let v70 : BitVec 32 := Scalar.extui v69
  let v71 : BitVec 32 := Scalar.subi v68 v70
  let v72 : BitVec 1 := Scalar.cmpi .ne v66 v71
  let v73 : BitVec 32 := Scalar.remsi v60 c512_i32_18
  let c0_i32_23 : BitVec 32 := 0#32
  let v74 : BitVec 1 := Scalar.cmpi .ne v73 c0_i32_23
  let v75 : BitVec 1 := Scalar.andi v72 v74
  let v61 : BitVec 32 := Scalar.divsi v60 c512_i32_18
  let c1_i32 : BitVec 32 := 1#32
  let v76 : BitVec 32 := Scalar.subi v61 c1_i32
  let v77 : BitVec 32 := Scalar.select v75 v76 v61
  let v81 : BitVec 32 := Scalar.subi v77 v80
  let c1_i32_28 : BitVec 32 := 1#32
  let v83 : BitVec 32 := Scalar.divsi v81 c1_i32_28
  let v84 : BitVec 32 := Scalar.muli v83 c1_i32_28
  let v85 : BitVec 32 := Scalar.addi v80 v84
  let c1_i32_30 : BitVec 32 := 1#32
  let arg13 : BitVec 32 := Scf.iv v85 c1_i32_30 k0_t2
  let c512_i32_34 : BitVec 32 := 512#32
  let v90 : BitVec 32 := Scalar.muli arg13 c512_i32_34
  let v91 : BitVec 32 := v90
  let c0_i32_61 : BitVec 32 := 0#32
  ![v91.toNat, 0]
def k0_off14 (i : grid0.Coords) (v38 : BitVec 32) (v50 : BitVec 32) (v51 : BitVec 32) (v52 : BitVec 32) (v79 : BitVec 32) (k0_t2 : Fin (k0_t2_loop i v38 v50 v51 v52 v79).trips) : Fin 2 → Nat :=
  let arg0 : BitVec 32 := BitVec.ofNat 32 (i 0).val
  let c0_i32_24 : BitVec 32 := 0#32
  let v78 : BitVec 1 := Scalar.cmpi .eq arg0 c0_i32_24
  let c0_i32_26 : BitVec 32 := 0#32
  let v80 : BitVec 32 := Scalar.select v78 c0_i32_26 v79
  let c31_i32 : BitVec 32 := 31#32
  let v59 : BitVec 1 := Scalar.cmpi .eq arg0 c31_i32
  let c16384_i32_17 : BitVec 32 := 16384#32
  let c0_i32_14 : BitVec 32 := 0#32
  let v53 : BitVec 1 := Scalar.cmpi .sgt arg0 c0_i32_14
  let v54 : BitVec 1 := Scalar.cmpi .eq v38 v52
  let v55 : BitVec 1 := Scalar.andi v53 v54
  let v56 : BitVec 32 := Scalar.select v55 v51 v50
  let v60 : BitVec 32 := Scalar.select v59 c16384_i32_17 v56
  let c0_i32_19 : BitVec 32 := 0#32
  let v62 : BitVec 1 := Scalar.cmpi .sgt v60 c0_i32_19
  let v63 : BitVec 32 := Scalar.extui v62
  let c0_i32_20 : BitVec 32 := 0#32
  let v64 : BitVec 1 := Scalar.cmpi .slt v60 c0_i32_20
  let v65 : BitVec 32 := Scalar.extui v64
  let v66 : BitVec 32 := Scalar.subi v63 v65
  let c512_i32_18 : BitVec 32 := 512#32
  let c0_i32_21 : BitVec 32 := 0#32
  let v67 : BitVec 1 := Scalar.cmpi .sgt c512_i32_18 c0_i32_21
  let v68 : BitVec 32 := Scalar.extui v67
  let c0_i32_22 : BitVec 32 := 0#32
  let v69 : BitVec 1 := Scalar.cmpi .slt c512_i32_18 c0_i32_22
  let v70 : BitVec 32 := Scalar.extui v69
  let v71 : BitVec 32 := Scalar.subi v68 v70
  let v72 : BitVec 1 := Scalar.cmpi .ne v66 v71
  let v73 : BitVec 32 := Scalar.remsi v60 c512_i32_18
  let c0_i32_23 : BitVec 32 := 0#32
  let v74 : BitVec 1 := Scalar.cmpi .ne v73 c0_i32_23
  let v75 : BitVec 1 := Scalar.andi v72 v74
  let v61 : BitVec 32 := Scalar.divsi v60 c512_i32_18
  let c1_i32 : BitVec 32 := 1#32
  let v76 : BitVec 32 := Scalar.subi v61 c1_i32
  let v77 : BitVec 32 := Scalar.select v75 v76 v61
  let v81 : BitVec 32 := Scalar.subi v77 v80
  let c1_i32_28 : BitVec 32 := 1#32
  let v83 : BitVec 32 := Scalar.divsi v81 c1_i32_28
  let v84 : BitVec 32 := Scalar.muli v83 c1_i32_28
  let v85 : BitVec 32 := Scalar.addi v80 v84
  let c1_i32_30 : BitVec 32 := 1#32
  let arg13 : BitVec 32 := Scf.iv v85 c1_i32_30 k0_t2
  let c512_i32_34 : BitVec 32 := 512#32
  let v90 : BitVec 32 := Scalar.muli arg13 c512_i32_34
  let v91 : BitVec 32 := v90
  let c0_i32_59 : BitVec 32 := 0#32
  ![v91.toNat, 0]

def k0_chk1 (i : grid0.Coords) (v38 : BitVec 32) (v50 : BitVec 32) (v51 : BitVec 32) (v52 : BitVec 32) (v79 : BitVec 32) : Prop :=
  ((k0_t1_loop i v38 v50 v51 v52 v79).OK) ∧
  (∀ k0_t1 : Fin (k0_t1_loop i v38 v50 v51 v52 v79).trips, 512 ∣ (k0_mult2 i v38 v50 v51 v52 v79 k0_t1).toNat) ∧
  (∀ k0_t1 : Fin (k0_t1_loop i v38 v50 v51 v52 v79).trips, ∀ a, (k0_off3 i v38 v50 v51 v52 v79 k0_t1) a + S512x1.size a ≤ S16384x1.size a) ∧
  (∀ k0_t1 : Fin (k0_t1_loop i v38 v50 v51 v52 v79).trips, ∀ a, (k0_off4 i v38 v50 v51 v52 v79 k0_t1) a + S512x512.size a ≤ S16384x512.size a) ∧
  (∀ k0_t1 : Fin (k0_t1_loop i v38 v50 v51 v52 v79).trips, ∀ (k0_h3 : k0_cond3 i v38 v50 v51 v52 v79 k0_t1 = 1#1), ∀ (k0_h4 : k0_cond4 i v38 v50 v51 v52 v79 k0_t1 = 1#1), ∀ (k0_h5 : k0_cond5 i v38 v50 v51 v52 v79 k0_t1 = 1#1), ∀ a, (k0_off5 i v38 v50 v51 v52 v79 k0_t1) a + S512x512.size a ≤ S16384x512.size a) ∧
  (∀ k0_t1 : Fin (k0_t1_loop i v38 v50 v51 v52 v79).trips, ∀ (k0_h3 : k0_cond3 i v38 v50 v51 v52 v79 k0_t1 = 1#1), ∀ (k0_h4 : k0_cond4 i v38 v50 v51 v52 v79 k0_t1 = 1#1), ∀ (k0_h5 : ¬(k0_cond5 i v38 v50 v51 v52 v79 k0_t1 = 1#1)), ∀ a, (k0_off6 i v38 v50 v51 v52 v79 k0_t1) a + S512x512.size a ≤ S16384x512.size a) ∧
  (∀ k0_t1 : Fin (k0_t1_loop i v38 v50 v51 v52 v79).trips, ∀ (k0_h3 : k0_cond3 i v38 v50 v51 v52 v79 k0_t1 = 1#1), ∀ (k0_h4 : ¬(k0_cond4 i v38 v50 v51 v52 v79 k0_t1 = 1#1)), ∀ a, (k0_off7 i v38 v50 v51 v52 v79 k0_t1) a + S512x512.size a ≤ S16384x512.size a) ∧
  (∀ k0_t1 : Fin (k0_t1_loop i v38 v50 v51 v52 v79).trips, ∀ (k0_h3 : ¬(k0_cond3 i v38 v50 v51 v52 v79 k0_t1 = 1#1)), ∀ a, (k0_off8 i v38 v50 v51 v52 v79 k0_t1) a + S512x512.size a ≤ S16384x512.size a) ∧
  ((k0_t2_loop i v38 v50 v51 v52 v79).OK) ∧
  (∀ k0_t2 : Fin (k0_t2_loop i v38 v50 v51 v52 v79).trips, 512 ∣ (k0_mult3 i v38 v50 v51 v52 v79 k0_t2).toNat) ∧
  (∀ k0_t2 : Fin (k0_t2_loop i v38 v50 v51 v52 v79).trips, ∀ a, (k0_off9 i v38 v50 v51 v52 v79 k0_t2) a + S512x1.size a ≤ S16384x1.size a) ∧
  (∀ k0_t2 : Fin (k0_t2_loop i v38 v50 v51 v52 v79).trips, ∀ a, (k0_off10 i v38 v50 v51 v52 v79 k0_t2) a + S512x512.size a ≤ S16384x512.size a) ∧
  (∀ k0_t2 : Fin (k0_t2_loop i v38 v50 v51 v52 v79).trips, ∀ (k0_h10 : k0_cond10 i v38 v50 v51 v52 v79 k0_t2 = 1#1), ∀ (k0_h11 : k0_cond11 i v38 v50 v51 v52 v79 k0_t2 = 1#1), ∀ (k0_h12 : k0_cond12 i v38 v50 v51 v52 v79 k0_t2 = 1#1), ∀ a, (k0_off11 i v38 v50 v51 v52 v79 k0_t2) a + S512x512.size a ≤ S16384x512.size a) ∧
  (∀ k0_t2 : Fin (k0_t2_loop i v38 v50 v51 v52 v79).trips, ∀ (k0_h10 : k0_cond10 i v38 v50 v51 v52 v79 k0_t2 = 1#1), ∀ (k0_h11 : k0_cond11 i v38 v50 v51 v52 v79 k0_t2 = 1#1), ∀ (k0_h12 : ¬(k0_cond12 i v38 v50 v51 v52 v79 k0_t2 = 1#1)), ∀ a, (k0_off12 i v38 v50 v51 v52 v79 k0_t2) a + S512x512.size a ≤ S16384x512.size a) ∧
  (∀ k0_t2 : Fin (k0_t2_loop i v38 v50 v51 v52 v79).trips, ∀ (k0_h10 : k0_cond10 i v38 v50 v51 v52 v79 k0_t2 = 1#1), ∀ (k0_h11 : ¬(k0_cond11 i v38 v50 v51 v52 v79 k0_t2 = 1#1)), ∀ a, (k0_off13 i v38 v50 v51 v52 v79 k0_t2) a + S512x512.size a ≤ S16384x512.size a) ∧
  (∀ k0_t2 : Fin (k0_t2_loop i v38 v50 v51 v52 v79).trips, ∀ (k0_h10 : ¬(k0_cond10 i v38 v50 v51 v52 v79 k0_t2 = 1#1)), ∀ a, (k0_off14 i v38 v50 v51 v52 v79 k0_t2) a + S512x512.size a ≤ S16384x512.size a)
theorem k0_t1_ok : ∀ (i : grid0.Coords) (v38 : BitVec 32) (v50 : BitVec 32) (v51 : BitVec 32) (v52 : BitVec 32) (v79 : BitVec 32) (k0_hw1 : k0_chk1 i v38 v50 v51 v52 v79), (k0_t1_loop i v38 v50 v51 v52 v79).OK := fun i v38 v50 v51 v52 v79 k0_hw1 => k0_hw1.1
theorem k0_mult2_dvd : ∀ (i : grid0.Coords) (v38 : BitVec 32) (v50 : BitVec 32) (v51 : BitVec 32) (v52 : BitVec 32) (v79 : BitVec 32) (k0_hw1 : k0_chk1 i v38 v50 v51 v52 v79) (k0_t1 : Fin (k0_t1_loop i v38 v50 v51 v52 v79).trips), 512 ∣ (k0_mult2 i v38 v50 v51 v52 v79 k0_t1).toNat := fun i v38 v50 v51 v52 v79 k0_hw1 k0_t1 => k0_hw1.2.1 k0_t1
theorem k0_off3_inb : ∀ (i : grid0.Coords) (v38 : BitVec 32) (v50 : BitVec 32) (v51 : BitVec 32) (v52 : BitVec 32) (v79 : BitVec 32) (k0_hw1 : k0_chk1 i v38 v50 v51 v52 v79) (k0_t1 : Fin (k0_t1_loop i v38 v50 v51 v52 v79).trips), ∀ a, (k0_off3 i v38 v50 v51 v52 v79 k0_t1) a + S512x1.size a ≤ S16384x1.size a := fun i v38 v50 v51 v52 v79 k0_hw1 k0_t1 => k0_hw1.2.2.1 k0_t1
theorem k0_off4_inb : ∀ (i : grid0.Coords) (v38 : BitVec 32) (v50 : BitVec 32) (v51 : BitVec 32) (v52 : BitVec 32) (v79 : BitVec 32) (k0_hw1 : k0_chk1 i v38 v50 v51 v52 v79) (k0_t1 : Fin (k0_t1_loop i v38 v50 v51 v52 v79).trips), ∀ a, (k0_off4 i v38 v50 v51 v52 v79 k0_t1) a + S512x512.size a ≤ S16384x512.size a := fun i v38 v50 v51 v52 v79 k0_hw1 k0_t1 => k0_hw1.2.2.2.1 k0_t1
theorem k0_off5_inb : ∀ (i : grid0.Coords) (v38 : BitVec 32) (v50 : BitVec 32) (v51 : BitVec 32) (v52 : BitVec 32) (v79 : BitVec 32) (k0_hw1 : k0_chk1 i v38 v50 v51 v52 v79) (k0_t1 : Fin (k0_t1_loop i v38 v50 v51 v52 v79).trips), ∀ (k0_h3 : k0_cond3 i v38 v50 v51 v52 v79 k0_t1 = 1#1), ∀ (k0_h4 : k0_cond4 i v38 v50 v51 v52 v79 k0_t1 = 1#1), ∀ (k0_h5 : k0_cond5 i v38 v50 v51 v52 v79 k0_t1 = 1#1), ∀ a, (k0_off5 i v38 v50 v51 v52 v79 k0_t1) a + S512x512.size a ≤ S16384x512.size a := fun i v38 v50 v51 v52 v79 k0_hw1 k0_t1 k0_h3 k0_h4 k0_h5 => k0_hw1.2.2.2.2.1 k0_t1 k0_h3 k0_h4 k0_h5
theorem k0_off6_inb : ∀ (i : grid0.Coords) (v38 : BitVec 32) (v50 : BitVec 32) (v51 : BitVec 32) (v52 : BitVec 32) (v79 : BitVec 32) (k0_hw1 : k0_chk1 i v38 v50 v51 v52 v79) (k0_t1 : Fin (k0_t1_loop i v38 v50 v51 v52 v79).trips), ∀ (k0_h3 : k0_cond3 i v38 v50 v51 v52 v79 k0_t1 = 1#1), ∀ (k0_h4 : k0_cond4 i v38 v50 v51 v52 v79 k0_t1 = 1#1), ∀ (k0_h5 : ¬(k0_cond5 i v38 v50 v51 v52 v79 k0_t1 = 1#1)), ∀ a, (k0_off6 i v38 v50 v51 v52 v79 k0_t1) a + S512x512.size a ≤ S16384x512.size a := fun i v38 v50 v51 v52 v79 k0_hw1 k0_t1 k0_h3 k0_h4 k0_h5 => k0_hw1.2.2.2.2.2.1 k0_t1 k0_h3 k0_h4 k0_h5
theorem k0_off7_inb : ∀ (i : grid0.Coords) (v38 : BitVec 32) (v50 : BitVec 32) (v51 : BitVec 32) (v52 : BitVec 32) (v79 : BitVec 32) (k0_hw1 : k0_chk1 i v38 v50 v51 v52 v79) (k0_t1 : Fin (k0_t1_loop i v38 v50 v51 v52 v79).trips), ∀ (k0_h3 : k0_cond3 i v38 v50 v51 v52 v79 k0_t1 = 1#1), ∀ (k0_h4 : ¬(k0_cond4 i v38 v50 v51 v52 v79 k0_t1 = 1#1)), ∀ a, (k0_off7 i v38 v50 v51 v52 v79 k0_t1) a + S512x512.size a ≤ S16384x512.size a := fun i v38 v50 v51 v52 v79 k0_hw1 k0_t1 k0_h3 k0_h4 => k0_hw1.2.2.2.2.2.2.1 k0_t1 k0_h3 k0_h4
theorem k0_off8_inb : ∀ (i : grid0.Coords) (v38 : BitVec 32) (v50 : BitVec 32) (v51 : BitVec 32) (v52 : BitVec 32) (v79 : BitVec 32) (k0_hw1 : k0_chk1 i v38 v50 v51 v52 v79) (k0_t1 : Fin (k0_t1_loop i v38 v50 v51 v52 v79).trips), ∀ (k0_h3 : ¬(k0_cond3 i v38 v50 v51 v52 v79 k0_t1 = 1#1)), ∀ a, (k0_off8 i v38 v50 v51 v52 v79 k0_t1) a + S512x512.size a ≤ S16384x512.size a := fun i v38 v50 v51 v52 v79 k0_hw1 k0_t1 k0_h3 => k0_hw1.2.2.2.2.2.2.2.1 k0_t1 k0_h3
theorem k0_t2_ok : ∀ (i : grid0.Coords) (v38 : BitVec 32) (v50 : BitVec 32) (v51 : BitVec 32) (v52 : BitVec 32) (v79 : BitVec 32) (k0_hw1 : k0_chk1 i v38 v50 v51 v52 v79), (k0_t2_loop i v38 v50 v51 v52 v79).OK := fun i v38 v50 v51 v52 v79 k0_hw1 => k0_hw1.2.2.2.2.2.2.2.2.1
theorem k0_mult3_dvd : ∀ (i : grid0.Coords) (v38 : BitVec 32) (v50 : BitVec 32) (v51 : BitVec 32) (v52 : BitVec 32) (v79 : BitVec 32) (k0_hw1 : k0_chk1 i v38 v50 v51 v52 v79) (k0_t2 : Fin (k0_t2_loop i v38 v50 v51 v52 v79).trips), 512 ∣ (k0_mult3 i v38 v50 v51 v52 v79 k0_t2).toNat := fun i v38 v50 v51 v52 v79 k0_hw1 k0_t2 => k0_hw1.2.2.2.2.2.2.2.2.2.1 k0_t2
theorem k0_off9_inb : ∀ (i : grid0.Coords) (v38 : BitVec 32) (v50 : BitVec 32) (v51 : BitVec 32) (v52 : BitVec 32) (v79 : BitVec 32) (k0_hw1 : k0_chk1 i v38 v50 v51 v52 v79) (k0_t2 : Fin (k0_t2_loop i v38 v50 v51 v52 v79).trips), ∀ a, (k0_off9 i v38 v50 v51 v52 v79 k0_t2) a + S512x1.size a ≤ S16384x1.size a := fun i v38 v50 v51 v52 v79 k0_hw1 k0_t2 => k0_hw1.2.2.2.2.2.2.2.2.2.2.1 k0_t2
theorem k0_off10_inb : ∀ (i : grid0.Coords) (v38 : BitVec 32) (v50 : BitVec 32) (v51 : BitVec 32) (v52 : BitVec 32) (v79 : BitVec 32) (k0_hw1 : k0_chk1 i v38 v50 v51 v52 v79) (k0_t2 : Fin (k0_t2_loop i v38 v50 v51 v52 v79).trips), ∀ a, (k0_off10 i v38 v50 v51 v52 v79 k0_t2) a + S512x512.size a ≤ S16384x512.size a := fun i v38 v50 v51 v52 v79 k0_hw1 k0_t2 => k0_hw1.2.2.2.2.2.2.2.2.2.2.2.1 k0_t2
theorem k0_off11_inb : ∀ (i : grid0.Coords) (v38 : BitVec 32) (v50 : BitVec 32) (v51 : BitVec 32) (v52 : BitVec 32) (v79 : BitVec 32) (k0_hw1 : k0_chk1 i v38 v50 v51 v52 v79) (k0_t2 : Fin (k0_t2_loop i v38 v50 v51 v52 v79).trips), ∀ (k0_h10 : k0_cond10 i v38 v50 v51 v52 v79 k0_t2 = 1#1), ∀ (k0_h11 : k0_cond11 i v38 v50 v51 v52 v79 k0_t2 = 1#1), ∀ (k0_h12 : k0_cond12 i v38 v50 v51 v52 v79 k0_t2 = 1#1), ∀ a, (k0_off11 i v38 v50 v51 v52 v79 k0_t2) a + S512x512.size a ≤ S16384x512.size a := fun i v38 v50 v51 v52 v79 k0_hw1 k0_t2 k0_h10 k0_h11 k0_h12 => k0_hw1.2.2.2.2.2.2.2.2.2.2.2.2.1 k0_t2 k0_h10 k0_h11 k0_h12
theorem k0_off12_inb : ∀ (i : grid0.Coords) (v38 : BitVec 32) (v50 : BitVec 32) (v51 : BitVec 32) (v52 : BitVec 32) (v79 : BitVec 32) (k0_hw1 : k0_chk1 i v38 v50 v51 v52 v79) (k0_t2 : Fin (k0_t2_loop i v38 v50 v51 v52 v79).trips), ∀ (k0_h10 : k0_cond10 i v38 v50 v51 v52 v79 k0_t2 = 1#1), ∀ (k0_h11 : k0_cond11 i v38 v50 v51 v52 v79 k0_t2 = 1#1), ∀ (k0_h12 : ¬(k0_cond12 i v38 v50 v51 v52 v79 k0_t2 = 1#1)), ∀ a, (k0_off12 i v38 v50 v51 v52 v79 k0_t2) a + S512x512.size a ≤ S16384x512.size a := fun i v38 v50 v51 v52 v79 k0_hw1 k0_t2 k0_h10 k0_h11 k0_h12 => k0_hw1.2.2.2.2.2.2.2.2.2.2.2.2.2.1 k0_t2 k0_h10 k0_h11 k0_h12
theorem k0_off13_inb : ∀ (i : grid0.Coords) (v38 : BitVec 32) (v50 : BitVec 32) (v51 : BitVec 32) (v52 : BitVec 32) (v79 : BitVec 32) (k0_hw1 : k0_chk1 i v38 v50 v51 v52 v79) (k0_t2 : Fin (k0_t2_loop i v38 v50 v51 v52 v79).trips), ∀ (k0_h10 : k0_cond10 i v38 v50 v51 v52 v79 k0_t2 = 1#1), ∀ (k0_h11 : ¬(k0_cond11 i v38 v50 v51 v52 v79 k0_t2 = 1#1)), ∀ a, (k0_off13 i v38 v50 v51 v52 v79 k0_t2) a + S512x512.size a ≤ S16384x512.size a := fun i v38 v50 v51 v52 v79 k0_hw1 k0_t2 k0_h10 k0_h11 => k0_hw1.2.2.2.2.2.2.2.2.2.2.2.2.2.2.1 k0_t2 k0_h10 k0_h11
theorem k0_off14_inb : ∀ (i : grid0.Coords) (v38 : BitVec 32) (v50 : BitVec 32) (v51 : BitVec 32) (v52 : BitVec 32) (v79 : BitVec 32) (k0_hw1 : k0_chk1 i v38 v50 v51 v52 v79) (k0_t2 : Fin (k0_t2_loop i v38 v50 v51 v52 v79).trips), ∀ (k0_h10 : ¬(k0_cond10 i v38 v50 v51 v52 v79 k0_t2 = 1#1)), ∀ a, (k0_off14 i v38 v50 v51 v52 v79 k0_t2) a + S512x512.size a ≤ S16384x512.size a := fun i v38 v50 v51 v52 v79 k0_hw1 k0_t2 k0_h10 => k0_hw1.2.2.2.2.2.2.2.2.2.2.2.2.2.2.2 k0_t2 k0_h10

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16384x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S16384x512 : Shape := ⟨2, ![16384, 512]⟩
abbrev S16384 : Shape := ⟨1, ![16384]⟩
abbrev S_ : Shape := ⟨0, ![]⟩
abbrev S1x16384 : Shape := ⟨2, ![1, 16384]⟩
abbrev S16 : Shape := ⟨1, ![16]⟩
abbrev S16x1 : Shape := ⟨2, ![16, 1]⟩
abbrev S16x16384 : Shape := ⟨2, ![16, 16384]⟩
abbrev S16384x1 : Shape := ⟨2, ![16384, 1]⟩
abbrev S1 : Shape := ⟨1, ![1]⟩
abbrev S1x1 : Shape := ⟨2, ![1, 1]⟩

abbrev nBuf : Space → Nat
  | .hbm => 82
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384, .i32⟩
  | .hbm, ⟨2, _⟩ => ⟨S_, .f32⟩
  | .hbm, ⟨3, _⟩ => ⟨S16384, .f32⟩
  | .hbm, ⟨4, _⟩ => ⟨S_, .f32⟩
  | .hbm, ⟨5, _⟩ => ⟨S16384, .f32⟩
  | .hbm, ⟨6, _⟩ => ⟨S1x16384, .i32⟩
  | .hbm, ⟨7, _⟩ => ⟨S16, .i32⟩
  | .hbm, ⟨8, _⟩ => ⟨S16x1, .i32⟩
  | .hbm, ⟨9, _⟩ => ⟨S16x16384, .i32⟩
  | .hbm, ⟨10, _⟩ => ⟨S16x16384, .i32⟩
  | .hbm, ⟨11, _⟩ => ⟨S16x16384, .i1⟩
  | .hbm, ⟨12, _⟩ => ⟨S1x16384, .f32⟩
  | .hbm, ⟨13, _⟩ => ⟨S_, .f32⟩
  | .hbm, ⟨14, _⟩ => ⟨S_, .f32⟩
  | .hbm, ⟨15, _⟩ => ⟨S16x16384, .f32⟩
  | .hbm, ⟨16, _⟩ => ⟨S16x16384, .f32⟩
  | .hbm, ⟨17, _⟩ => ⟨S16x16384, .f32⟩
  | .hbm, ⟨18, _⟩ => ⟨S_, .f32⟩
  | .hbm, ⟨19, _⟩ => ⟨S16, .f32⟩
  | .hbm, ⟨20, _⟩ => ⟨S1x16384, .f32⟩
  | .hbm, ⟨21, _⟩ => ⟨S_, .f32⟩
  | .hbm, ⟨22, _⟩ => ⟨S_, .f32⟩
  | .hbm, ⟨23, _⟩ => ⟨S16x16384, .f32⟩
  | .hbm, ⟨24, _⟩ => ⟨S16x16384, .f32⟩
  | .hbm, ⟨25, _⟩ => ⟨S16x16384, .f32⟩
  | .hbm, ⟨26, _⟩ => ⟨S_, .f32⟩
  | .hbm, ⟨27, _⟩ => ⟨S16, .f32⟩
  | .hbm, ⟨28, _⟩ => ⟨S_, .i32⟩
  | .hbm, ⟨29, _⟩ => ⟨S16384, .i32⟩
  | .hbm, ⟨30, _⟩ => ⟨S16384, .i1⟩
  | .hbm, ⟨31, _⟩ => ⟨S_, .i32⟩
  | .hbm, ⟨32, _⟩ => ⟨S16384, .i32⟩
  | .hbm, ⟨33, _⟩ => ⟨S16384, .i32⟩
  | .hbm, ⟨34, _⟩ => ⟨S16384, .i32⟩
  | .hbm, ⟨35, _⟩ => ⟨S16384x1, .i32⟩
  | .hbm, ⟨36, _⟩ => ⟨S1, .i32⟩
  | .hbm, ⟨37, _⟩ => ⟨S_, .i32⟩
  | .hbm, ⟨38, _⟩ => ⟨S16384x1, .i32⟩
  | .hbm, ⟨39, _⟩ => ⟨S16384x1, .i1⟩
  | .hbm, ⟨40, _⟩ => ⟨S1x1, .i32⟩
  | .hbm, ⟨41, _⟩ => ⟨S16384x1, .i32⟩
  | .hbm, ⟨42, _⟩ => ⟨S16384x1, .i1⟩
  | .hbm, ⟨43, _⟩ => ⟨S16384x1, .i1⟩
  | .hbm, ⟨44, _⟩ => ⟨S_, .i1⟩
  | .hbm, ⟨45, _⟩ => ⟨S16384, .i1⟩
  | .hbm, ⟨46, _⟩ => ⟨S16384, .f32⟩
  | .hbm, ⟨47, _⟩ => ⟨S_, .f32⟩
  | .hbm, ⟨48, _⟩ => ⟨S16384, .f32⟩
  | .hbm, ⟨49, _⟩ => ⟨S16384, .f32⟩
  | .hbm, ⟨50, _⟩ => ⟨S16384x1, .f32⟩
  | .hbm, ⟨51, _⟩ => ⟨S_, .i32⟩
  | .hbm, ⟨52, _⟩ => ⟨S16384, .i32⟩
  | .hbm, ⟨53, _⟩ => ⟨S16384, .i1⟩
  | .hbm, ⟨54, _⟩ => ⟨S_, .i32⟩
  | .hbm, ⟨55, _⟩ => ⟨S16384, .i32⟩
  | .hbm, ⟨56, _⟩ => ⟨S16384, .i32⟩
  | .hbm, ⟨57, _⟩ => ⟨S16384, .i32⟩
  | .hbm, ⟨58, _⟩ => ⟨S16384x1, .i32⟩
  | .hbm, ⟨59, _⟩ => ⟨S1, .i32⟩
  | .hbm, ⟨60, _⟩ => ⟨S_, .i32⟩
  | .hbm, ⟨61, _⟩ => ⟨S16384x1, .i32⟩
  | .hbm, ⟨62, _⟩ => ⟨S16384x1, .i1⟩
  | .hbm, ⟨63, _⟩ => ⟨S1x1, .i32⟩
  | .hbm, ⟨64, _⟩ => ⟨S16384x1, .i32⟩
  | .hbm, ⟨65, _⟩ => ⟨S16384x1, .i1⟩
  | .hbm, ⟨66, _⟩ => ⟨S16384x1, .i1⟩
  | .hbm, ⟨67, _⟩ => ⟨S_, .i1⟩
  | .hbm, ⟨68, _⟩ => ⟨S16384, .i1⟩
  | .hbm, ⟨69, _⟩ => ⟨S16384, .f32⟩
  | .hbm, ⟨70, _⟩ => ⟨S_, .f32⟩
  | .hbm, ⟨71, _⟩ => ⟨S16384, .f32⟩
  | .hbm, ⟨72, _⟩ => ⟨S16384, .f32⟩
  | .hbm, ⟨73, _⟩ => ⟨S16384x1, .f32⟩
  | .hbm, ⟨74, _⟩ => ⟨S16384x512, .f32⟩
  | .hbm, ⟨75, _⟩ => ⟨S16384x512, .f32⟩
  | .hbm, ⟨76, _⟩ => ⟨S16384x1, .f32⟩
  | .hbm, ⟨77, _⟩ => ⟨S_, .f32⟩
  | .hbm, ⟨78, _⟩ => ⟨S16384x1, .f32⟩
  | .hbm, ⟨79, _⟩ => ⟨S16384x1, .f32⟩
  | .hbm, ⟨80, _⟩ => ⟨S16384x512, .f32⟩
  | .hbm, ⟨81, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_call2_c : Ref sig .tc := ⟨.hbm, 28, rfl⟩
abbrev main_call2_v0 : Ref sig .tc := ⟨.hbm, 29, rfl⟩
abbrev main_call2_v1 : Ref sig .tc := ⟨.hbm, 30, rfl⟩
abbrev main_call2_c_0 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_call2_v5 : Ref sig .tc := ⟨.hbm, 35, rfl⟩
abbrev main_call2_c_1 : Ref sig .tc := ⟨.hbm, 36, rfl⟩
abbrev main_call2_c_2 : Ref sig .tc := ⟨.hbm, 37, rfl⟩
abbrev main_call2_v6 : Ref sig .tc := ⟨.hbm, 38, rfl⟩
abbrev main_call2_v7 : Ref sig .tc := ⟨.hbm, 39, rfl⟩
abbrev main_call2_v8 : Ref sig .tc := ⟨.hbm, 40, rfl⟩
abbrev main_call2_v9 : Ref sig .tc := ⟨.hbm, 41, rfl⟩
abbrev main_call2_v10 : Ref sig .tc := ⟨.hbm, 42, rfl⟩
abbrev main_call2_v11 : Ref sig .tc := ⟨.hbm, 43, rfl⟩
abbrev main_call2_c_3 : Ref sig .tc := ⟨.hbm, 44, rfl⟩
abbrev main_call2_v12 : Ref sig .tc := ⟨.hbm, 45, rfl⟩
abbrev main_call2_v13 : Ref sig .tc := ⟨.hbm, 46, rfl⟩
abbrev main_call2_cst : Ref sig .tc := ⟨.hbm, 47, rfl⟩
abbrev main_call2_v14 : Ref sig .tc := ⟨.hbm, 48, rfl⟩
abbrev main_v14 : Ref sig .tc := ⟨.hbm, 49, rfl⟩
abbrev main_v15 : Ref sig .tc := ⟨.hbm, 50, rfl⟩
abbrev main_call3_c : Ref sig .tc := ⟨.hbm, 51, rfl⟩
abbrev main_call3_v0 : Ref sig .tc := ⟨.hbm, 52, rfl⟩
abbrev main_call3_v1 : Ref sig .tc := ⟨.hbm, 53, rfl⟩
abbrev main_call3_c_0 : Ref sig .tc := ⟨.hbm, 54, rfl⟩
abbrev main_call3_v2 : Ref sig .tc := ⟨.hbm, 55, rfl⟩
abbrev main_call3_v3 : Ref sig .tc := ⟨.hbm, 56, rfl⟩
abbrev main_call3_v4 : Ref sig .tc := ⟨.hbm, 57, rfl⟩
abbrev main_call3_v5 : Ref sig .tc := ⟨.hbm, 58, rfl⟩
abbrev main_call3_c_1 : Ref sig .tc := ⟨.hbm, 59, rfl⟩
abbrev main_call3_c_2 : Ref sig .tc := ⟨.hbm, 60, rfl⟩
abbrev main_call3_v6 : Ref sig .tc := ⟨.hbm, 61, rfl⟩
abbrev main_call3_v7 : Ref sig .tc := ⟨.hbm, 62, rfl⟩
abbrev main_call3_v8 : Ref sig .tc := ⟨.hbm, 63, rfl⟩
abbrev main_call3_v9 : Ref sig .tc := ⟨.hbm, 64, rfl⟩
abbrev main_call3_v10 : Ref sig .tc := ⟨.hbm, 65, rfl⟩
abbrev main_call3_v11 : Ref sig .tc := ⟨.hbm, 66, rfl⟩
abbrev main_call3_c_3 : Ref sig .tc := ⟨.hbm, 67, rfl⟩
abbrev main_call3_v12 : Ref sig .tc := ⟨.hbm, 68, rfl⟩
abbrev main_call3_v13 : Ref sig .tc := ⟨.hbm, 69, rfl⟩
abbrev main_call3_cst : Ref sig .tc := ⟨.hbm, 70, rfl⟩
abbrev main_call3_v14 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_cst_5 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩

abbrev nD : Nat := 1
abbrev τ : Topo := Topo.v7x

variable {F : FTy → Type} [FloatOps F]
-- ==== Proof.Words.lean ====
module

public import proofs.«01_k».proof.Proof.Gen.KernelIdeal.Skeleton
public import Idealize.ShloMosaic.Lib.Affine
public import Idealize.ShloMosaic.Lib.LoopRemainder

/-!
# The words of the block loop

At grid point `i` the kernel writes out the blocks `d, d + 1, …, e - 1`: `d` is how many blocks the earlier points
wrote, `e` how many are complete once point `i` has been read. Here the words the kernel computes from those two
numbers (the loop's bounds, the row offset of a block, the choice of the staging slot) are read as naturals, and the
check the kernel states before the loop is proved from `d ≤ e ≤ 32`.
-/

@[expose] public section

set_option maxRecDepth 16384

namespace Cert.KernelIdeal.Blocks

open Idealize.ShloMosaic Cert.KernelIdeal
open Idealize.ShloMosaic.Affine (IsInt)

/-- The first block the loop writes: none has been written before the first grid point. -/
def lowWord (i : grid0.Coords) (v79 : BitVec 32) : BitVec 32 :=
  Scalar.select (Scalar.cmpi .eq (BitVec.ofNat 32 (i 0).val) 0#32) 0#32 v79

/-- The first row of the segment still open after the grid point, before the last point closes it: the row found in
    this block, or the row found earlier when the block ends in the segment that was open already. -/
def openWord (i : grid0.Coords) (v38 v50 v51 v52 : BitVec 32) : BitVec 32 :=
  Scalar.select (Scalar.andi (Scalar.cmpi .sgt (BitVec.ofNat 32 (i 0).val) 0#32) (Scalar.cmpi .eq v38 v52)) v51 v50

/-- How many rows are complete after the grid point: all of them after the last one. -/
def rowsWord (i : grid0.Coords) (v38 v50 v51 v52 : BitVec 32) : BitVec 32 :=
  Scalar.select (Scalar.cmpi .eq (BitVec.ofNat 32 (i 0).val) 31#32) 16384#32 (openWord i v38 v50 v51 v52)

/-- The floor of a word divided by 512, as the kernel spells it with signed operations. -/
def floorWord (v60 : BitVec 32) : BitVec 32 :=
  Scalar.select
    (Scalar.andi
      (Scalar.cmpi .ne
        (Scalar.subi (Scalar.extui (Scalar.cmpi .sgt v60 0#32)) (Scalar.extui (Scalar.cmpi .slt v60 0#32)))
        (Scalar.subi (Scalar.extui (Scalar.cmpi .sgt (512#32 : BitVec 32) 0#32)) (Scalar.extui (Scalar.cmpi .slt (512#32 : BitVec 32) 0#32))))
      (Scalar.cmpi .ne (Scalar.remsi v60 512#32) 0#32))
    (Scalar.subi (Scalar.divsi v60 512#32) 1#32) (Scalar.divsi v60 512#32)

/-- The staging slot of a block, clamped to the four slots, as the kernel spells it. -/
def slotWord (b : BitVec 32) : BitVec 32 :=
  let four := Scalar.select (Scalar.cmpi .eq (4#32 : BitVec 32) 0#32) 1#32 4#32
  let r := Scalar.remsi b four
  Scalar.minsi (Scalar.maxsi (Scalar.select (Scalar.andi (Scalar.xori (Scalar.cmpi .slt r 0#32) (Scalar.cmpi .slt four 0#32))
    (Scalar.cmpi .ne r 0#32)) (Scalar.addi r four) r) 0#32) 3#32

/-- A quotient of a natural number below `2 ^ 31`, as a signed word operation. -/
theorem divsi_512 (f : ℕ) (hf : f ≤ 16384) : Scalar.divsi (BitVec.ofNat 32 f) 512#32 = BitVec.ofNat 32 (f / 512) := by
  have h1 : ¬ IntOp.SDivCorner (BitVec.ofNat 32 f) 512#32 := by
    rintro (h | ⟨-, h⟩) <;> exact absurd h (by decide)
  show IntOp.divsi .scalar _ _ = _
  unfold IntOp.divsi
  rw [if_neg h1, BitVec.sdiv_eq]
  have hm : (BitVec.ofNat 32 f).msb = false := by
    rw [BitVec.msb_eq_false_iff_two_mul_lt, BitVec.toNat_ofNat]; omega
  have hm' : (512#32 : BitVec 32).msb = false := by decide
  rw [hm, hm']
  apply BitVec.eq_of_toNat_eq
  show (BitVec.ofNat 32 f / 512#32).toNat = _
  rw [BitVec.toNat_udiv, BitVec.toNat_ofNat, BitVec.toNat_ofNat, BitVec.toNat_ofNat, Nat.mod_eq_of_lt (by omega), Nat.mod_eq_of_lt (by omega : 512 < _),
    Nat.mod_eq_of_lt (by omega)]

/-- The kernel's floor division reads as the floor division of naturals. -/
theorem floorWord_ofNat (f : ℕ) (hf : f ≤ 16384) : floorWord (BitVec.ofNat 32 f) = BitVec.ofNat 32 (f / 512) := by
  rcases Nat.eq_zero_or_pos f with rfl | h
  · decide
  · have e : (BitVec.ofNat 32 f).toInt = f := by
      rw [BitVec.toInt_ofNat']; simp [Int.bmod]; omega
    have g1 : Scalar.cmpi .sgt (BitVec.ofNat 32 f) 0#32 = 1#1 := by
      show BitVec.ofBool (decide ((0#32 : BitVec 32).toInt < (BitVec.ofNat 32 f).toInt)) = _
      rw [e, decide_eq_true (by rw [show (0#32 : BitVec 32).toInt = 0 from by decide]; omega)]; rfl
    have g2 : Scalar.cmpi .slt (BitVec.ofNat 32 f) 0#32 = 0#1 := by
      show BitVec.ofBool (decide ((BitVec.ofNat 32 f).toInt < (0#32 : BitVec 32).toInt)) = _
      rw [e, decide_eq_false (by rw [show (0#32 : BitVec 32).toInt = 0 from by decide]; omega)]; rfl
    unfold floorWord
    rw [g1, g2, divsi_512 f hf]
    have g3 : ∀ c : BitVec 1, Scalar.andi (Scalar.cmpi .ne (Scalar.subi (Scalar.extui (1#1 : BitVec 1)) (Scalar.extui (0#1 : BitVec 1)))
        (Scalar.subi (Scalar.extui (Scalar.cmpi .sgt (512#32 : BitVec 32) 0#32)) (Scalar.extui (Scalar.cmpi .slt (512#32 : BitVec 32) 0#32)))) c = 0#1 := by
      decide
    rw [g3]; rfl

/-- What the words of a grid point say in naturals: the loop writes the blocks from `d` to before `e`. -/
structure Span (i : grid0.Coords) (v38 v50 v51 v52 v79 : BitVec 32) (d e : ℕ) : Prop where
  low : lowWord i v79 = BitVec.ofNat 32 d
  high : floorWord (rowsWord i v38 v50 v51 v52) = BitVec.ofNat 32 e
  le : d ≤ e
  le32 : e ≤ 32

namespace Span

variable {i : grid0.Coords} {v38 v50 v51 v52 v79 : BitVec 32} {d e : ℕ}

/-- The word of a small natural, read signed. -/
theorem toInt_small {n : ℕ} (h : n ≤ 32) : (BitVec.ofNat 32 n).toInt = n := by
  rw [BitVec.toInt_ofNat']; simp [Int.bmod]; omega

/-- The block loop's operands. -/
theorem loop (h : Span i v38 v50 v51 v52 v79 d e) :
    k0_t1_loop i v38 v50 v51 v52 v79 = ⟨BitVec.ofNat 32 d, BitVec.ofNat 32 e, 1#32⟩ := by
  have h0 : k0_t1_loop i v38 v50 v51 v52 v79 = ⟨lowWord i v79,
    Scalar.addi (lowWord i v79) (Scalar.muli (Scalar.divsi (Scalar.subi (floorWord (rowsWord i v38 v50 v51 v52)) (lowWord i v79)) 1#32) 1#32), 1#32⟩ := rfl
  rw [h0, Scalar.muli_divsi_one, h.low, h.high]
  congr 1
  show BitVec.ofNat 32 d + (BitVec.ofNat 32 e - BitVec.ofNat 32 d) = _
  rw [BitVec.add_comm, BitVec.sub_add_cancel]

/-- It runs once for each block. -/
theorem trips (h : Span i v38 v50 v51 v52 v79 d e) : (k0_t1_loop i v38 v50 v51 v52 v79).trips = e - d := by
  rw [h.loop]
  show Scf.trips (BitVec.ofNat 32 d) (BitVec.ofNat 32 e) 1#32 = _
  unfold Scf.trips
  have := h.le; have := h.le32
  rw [toInt_small h.le32, toInt_small (by omega : d ≤ 32), show (1#32 : BitVec 32).toInt = 1 from by decide]
  omega

/-- Its operands give it a meaning. -/
theorem ok (h : Span i v38 v50 v51 v52 v79 d e) : (k0_t1_loop i v38 v50 v51 v52 v79).OK := by
  have ht := h.trips
  have hl := h.loop
  refine ⟨?_, ?_⟩
  · rw [hl]; show (0 : Int) < (1#32 : BitVec 32).toInt; decide
  · show (k0_t1_loop i v38 v50 v51 v52 v79).lb.toInt + ((k0_t1_loop i v38 v50 v51 v52 v79).trips : ℕ) * (k0_t1_loop i v38 v50 v51 v52 v79).st.toInt < _
    rw [ht, hl]
    have := h.le; have := h.le32
    rw [toInt_small (by omega : d ≤ 32), show (1#32 : BitVec 32).toInt = 1 from by decide]
    rw [show ((2 : Int) ^ (32 - 1)) = 2147483648 from by decide]; omega

/-- Trip `k`'s block number, as the kernel's word. -/
theorem iv (h : Span i v38 v50 v51 v52 v79 d e) (k : ℕ) : Scf.iv (lowWord i v79) 1#32 k = BitVec.ofNat 32 (d + k) := by
  rw [h.low]; unfold Scf.iv
  rw [BitVec.mul_one, ← BitVec.ofNat_add]

/-- Trip `k`'s block number is below 32. -/
theorem lt32 (h : Span i v38 v50 v51 v52 v79 d e) (k : Fin (k0_t1_loop i v38 v50 v51 v52 v79).trips) : d + k.val < 32 := by
  have := k.isLt; have ht := h.trips; have := h.le; have := h.le32
  omega

/-- The row a block starts at, as the kernel's index word. -/
theorem row_word {b : ℕ} (hb : b < 32) : (Scalar.indexCast (Scalar.muli (BitVec.ofNat 32 b) 512#32)).toNat = 512 * b := by
  have : ∀ b : Fin 32, (Scalar.indexCast (Scalar.muli (BitVec.ofNat 32 b.val) 512#32)).toNat = 512 * b.val := by decide
  exact this ⟨b, hb⟩

/-- The same word before its cast to an index. -/
theorem row_word' {b : ℕ} (hb : b < 32) : (Scalar.muli (BitVec.ofNat 32 b) 512#32).toNat = 512 * b := by
  have : ∀ b : Fin 32, (Scalar.muli (BitVec.ofNat 32 b.val) 512#32).toNat = 512 * b.val := by decide
  exact this ⟨b, hb⟩

section offsets
variable (h : Span i v38 v50 v51 v52 v79 d e) (k : Fin (k0_t1_loop i v38 v50 v51 v52 v79).trips)
include h

/-- The rows a trip reads and writes start at `512` times its block, for each of the accesses that name them. -/
theorem off3 : k0_off3 i v38 v50 v51 v52 v79 k = ![512 * (d + k.val), 0] := by
  show ![(Scalar.indexCast (Scalar.muli (Scf.iv (lowWord i v79) 1#32 k) 512#32)).toNat, 0] = _
  rw [h.iv, row_word (h.lt32 k)]
/-- The offset of the rows loaded. -/
theorem off4 : k0_off4 i v38 v50 v51 v52 v79 k = ![512 * (d + k.val), 0] := h.off3 k
/-- The offset of a slot's copy. -/
theorem off5 : k0_off5 i v38 v50 v51 v52 v79 k = ![512 * (d + k.val), 0] := by
  show ![(Scalar.muli (Scf.iv (lowWord i v79) 1#32 k) 512#32).toNat, 0] = _
  rw [h.iv, row_word' (h.lt32 k)]
/-- The offset of a slot's copy. -/
theorem off6 : k0_off6 i v38 v50 v51 v52 v79 k = ![512 * (d + k.val), 0] := h.off5 k
/-- The offset of a slot's copy. -/
theorem off7 : k0_off7 i v38 v50 v51 v52 v79 k = ![512 * (d + k.val), 0] := h.off5 k
/-- The offset of a slot's copy. -/
theorem off8 : k0_off8 i v38 v50 v51 v52 v79 k = ![512 * (d + k.val), 0] := h.off5 k

/-- The kernel takes slot 0 unless this word is set, -/
theorem cond3 : k0_cond3 i v38 v50 v51 v52 v79 k = 1#1 ↔ (d + k.val) % 4 ≠ 0 := by
  show Scalar.cmpi .ne (slotWord (Scf.iv (lowWord i v79) 1#32 k)) 0#32 = 1#1 ↔ _
  rw [h.iv]
  have : ∀ b : Fin 32, Scalar.cmpi .ne (slotWord (BitVec.ofNat 32 b.val)) 0#32 = 1#1 ↔ b.val % 4 ≠ 0 := by decide
  exact this ⟨_, h.lt32 k⟩
/-- slot 1 unless this one is, -/
theorem cond4 : k0_cond4 i v38 v50 v51 v52 v79 k = 1#1 ↔ (d + k.val) % 4 ≠ 1 := by
  show Scalar.cmpi .ne (Scalar.subi (slotWord (Scf.iv (lowWord i v79) 1#32 k)) 1#32) 0#32 = 1#1 ↔ _
  rw [h.iv]
  have : ∀ b : Fin 32, Scalar.cmpi .ne (Scalar.subi (slotWord (BitVec.ofNat 32 b.val)) 1#32) 0#32 = 1#1 ↔ b.val % 4 ≠ 1 := by decide
  exact this ⟨_, h.lt32 k⟩
/-- and slot 2 unless this one is. -/
theorem cond5 : k0_cond5 i v38 v50 v51 v52 v79 k = 1#1 ↔ (d + k.val) % 4 ≠ 2 := by
  show Scalar.cmpi .ne (Scalar.subi (Scalar.subi (slotWord (Scf.iv (lowWord i v79) 1#32 k)) 1#32) 1#32) 0#32 = 1#1 ↔ _
  rw [h.iv]
  have : ∀ b : Fin 32, Scalar.cmpi .ne (Scalar.subi (Scalar.subi (slotWord (BitVec.ofNat 32 b.val)) 1#32) 1#32) 0#32 = 1#1 ↔ b.val % 4 ≠ 2 := by decide
  exact this ⟨_, h.lt32 k⟩

/-- A block's 512 rows lie within an array of 16384 rows. -/
theorem inb {n : ℕ} {off : Fin 2 → ℕ} (ho : off = ![512 * (d + k.val), 0]) (a : Fin 2) :
    off a + (⟨2, ![512, n]⟩ : Shape).size a ≤ (⟨2, ![16384, n]⟩ : Shape).size a := by
  have := h.lt32 k
  subst ho
  match a with
  | 0 => show 512 * (d + k.val) + 512 ≤ 16384; omega
  | 1 => show 0 + n ≤ n; omega

end offsets

/-- The loop that would take what is left over after steps of one: there is nothing left. -/
theorem rest_trips (i : grid0.Coords) (v38 v50 v51 v52 v79 : BitVec 32) : (k0_t2_loop i v38 v50 v51 v52 v79).trips = 0 :=
  Scf.rem_trips (lowWord i v79) (Scalar.subi (floorWord (rowsWord i v38 v50 v51 v52)) (lowWord i v79))

/-- It is still a loop with a meaning. -/
theorem rest_ok (i : grid0.Coords) (v38 v50 v51 v52 v79 : BitVec 32) : (k0_t2_loop i v38 v50 v51 v52 v79).OK :=
  Scf.rem_ok (lowWord i v79) (Scalar.subi (floorWord (rowsWord i v38 v50 v51 v52)) (lowWord i v79))

/-- It has no trip. -/
theorem rest_none (k : Fin (k0_t2_loop i v38 v50 v51 v52 v79).trips) : False :=
  Nat.not_lt_zero _ (lt_of_lt_of_eq k.isLt (rest_trips i v38 v50 v51 v52 v79))

/-- What the kernel checks before its loop holds. -/
theorem chk (h : Span i v38 v50 v51 v52 v79 d e) : k0_chk1 i v38 v50 v51 v52 v79 := by
  refine ⟨h.ok, fun k => ?_, fun k => h.inb k (h.off3 k), fun k => h.inb k (h.off4 k), fun k _ _ _ => h.inb k (h.off5 k),
    fun k _ _ _ => h.inb k (h.off6 k), fun k _ _ => h.inb k (h.off7 k), fun k _ => h.inb k (h.off8 k), rest_ok _ _ _ _ _ _,
    fun k => (rest_none k).elim, fun k => (rest_none k).elim, fun k => (rest_none k).elim, fun k => (rest_none k).elim,
    fun k => (rest_none k).elim, fun k => (rest_none k).elim, fun k => (rest_none k).elim⟩
  show 512 ∣ (Scalar.muli (Scf.iv (lowWord i v79) 1#32 k) 512#32).toNat
  rw [h.iv, row_word' (h.lt32 k)]
  exact ⟨_, rfl⟩

end Span

end Cert.KernelIdeal.Blocks
-- ==== Proof.Frontier.lean ====
module

public import proofs.«01_k».proof.Proof.Words
public import Idealize.ShloMosaic.Lib.Pointwise.Index
public import Idealize.ShloMosaic.Lib.Pointwise.Reshape
public import Idealize.ShloMosaic.Lib.SortNet.Extract

/-!
# How far the kernel has got at each grid point

The kernel reads the rows 512 at a time and keeps, for each segment, the least and the greatest element met. It may
write a block out once every row of the block belongs to a segment that is complete. It finds that from the segment
numbers: the greatest number in the block just read is the segment still open, and `openWord` is its first row. Here
the recursion over grid points is stated, and its bounds are proved for any contents of the segment numbers.
-/

@[expose] public section

set_option maxRecDepth 16384

namespace Cert.KernelIdeal.Blocks

open Idealize.ShloMosaic Cert.KernelIdeal Cert.KernelIdeal.Gen
open Idealize.ShloMosaic.SortNet (toInt_maxsi toInt_minsi)

/-! ## Comparing and choosing words -/

/-- Comparing equal words gives a set bit. -/
theorem cmp_self (a : BitVec 32) : IntOp.cmpi .eq a a = 1#1 := by unfold IntOp.cmpi; simp

/-- Comparing different words gives a clear bit. -/
theorem cmp_other {a b : BitVec 32} (h : a ≠ b) : IntOp.cmpi .eq a b = 0#1 := by
  unfold IntOp.cmpi
  simp only [beq_eq_false_iff_ne.mpr h]; rfl

/-- A set bit chooses the first. -/
theorem select_set {α : Type} (a b : α) : Scalar.select 1#1 a b = a := rfl

/-- A clear bit chooses the second. -/
theorem select_clear {α : Type} (a b : α) : Scalar.select 0#1 a b = b := rfl

/-! ## The two word reductions -/

section folds
variable {ι : Type} [DecidableEq ι]

/-- The signed minimum of a set of words, from the greatest word, is one of them and at most each of them. -/
theorem fold_minsi_attained (s : Finset ι) (hs : s.Nonempty) (g : ι → BitVec 32) :
    ∃ a ∈ s, s.fold IntOp.minsi (BitVec.intMax 32) g = g a ∧ ∀ x ∈ s, (g a).toInt ≤ (g x).toInt := by
  obtain ⟨a, ha, hmin⟩ := s.exists_min_image (fun x => (g x).toInt) hs
  have hrel : ∀ {c x y : BitVec 32}, c.toInt ≤ (IntOp.minsi x y).toInt ↔ c.toInt ≤ x.toInt ∧ c.toInt ≤ y.toInt := by
    intro c x y; rw [toInt_minsi]; exact le_min_iff
  have h1 := (Finset.fold_op_rel_iff_and (op := IntOp.minsi) (f := g) (s := s) (b := BitVec.intMax 32)
    (r := fun c x => c.toInt ≤ x.toInt) (fun {x y z} => hrel) (c := g a)).2 ⟨BitVec.toInt_le, hmin⟩
  have h2 := ((Finset.fold_op_rel_iff_and (op := IntOp.minsi) (f := g) (s := s) (b := BitVec.intMax 32)
    (r := fun c x => c.toInt ≤ x.toInt) (fun {x y z} => hrel) (c := s.fold IntOp.minsi (BitVec.intMax 32) g)).1 le_rfl).2 a ha
  exact ⟨a, ha, BitVec.eq_of_toInt_eq (le_antisymm h2 h1), hmin⟩

/-- The signed maximum of a set of words, from the least word, is one of them and at least each of them. -/
theorem fold_maxsi_attained (s : Finset ι) (hs : s.Nonempty) (g : ι → BitVec 32) :
    ∃ a ∈ s, s.fold IntOp.maxsi (BitVec.intMin 32) g = g a ∧ ∀ x ∈ s, (g x).toInt ≤ (g a).toInt := by
  obtain ⟨-, hge, hat⟩ := SortNet.fold_maxsi_spec g s (BitVec.intMin 32)
  rcases hat with h | ⟨a, ha, h⟩
  · obtain ⟨a, ha⟩ := hs
    have e : g a = BitVec.intMin 32 := by
      apply BitVec.eq_of_toInt_eq
      refine le_antisymm ?_ (SortNet.intMin_toInt_le _)
      have := hge a ha; rwa [h] at this
    refine ⟨a, ha, h.trans e.symm, fun x hx => ?_⟩
    have := hge x hx; rwa [h, ← e] at this
  · exact ⟨a, ha, h, fun x hx => by have := hge x hx; rwa [h] at this⟩

end folds

/-! ## The block's last segment and where it starts -/

section block
variable {F : FTy → Type} [FloatOps F]

/-- The greatest segment number in a block. -/
noncomputable def segMax (s : Vec F S512x1 .i32) : BitVec 32 := extractAt ![0, 0, 0] (k0_pay20 s) inpos_S1x1x1_p0_0_0

/-- The first row, counted over the whole array, at which block `n` holds its greatest segment number. -/
noncomputable def segFirst (n : ℕ) (s : Vec F S512x1 .i32) : BitVec 32 :=
  extractAt ![0, 0, 0] (k0_pay21 (BitVec.ofNat 32 n) (k0_pay11 s) (segMax s) (iota .tc S512x1 32 [0] iota_S512x1_d0_w32)) inpos_S1x1x1_p0_0_0

/-- A shape of one element has one index. -/
theorem idx1_eq (i j : S1.Idx) : i = j := by
  funext a
  match a with
  | ⟨0, _⟩ =>
    have hi : (i 0).val < 1 := (i 0).isLt
    have hj : (j 0).val < 1 := (j 0).isLt
    exact Fin.ext (show (i 0).val = (j 0).val by omega)

/-- The reduction of a whole `[512, 1]` column to one word: attained at a row. -/
theorem reduce_column {kind : IKind} {acc : BitVec 32} (hacc : acc = kind.neutral) (g : IVec S512x1 32) (P : (S512x1.Idx → BitVec 32) → BitVec 32 → Prop)
    (hP : ∀ (s : Finset S1x512x1.Idx), s.Nonempty → (∀ x, x ∈ s) → ∀ (g' : S1x512x1.Idx → BitVec 32), (∃ e : S1x512x1.Idx ≃ S512x1.Idx, g' = g ∘ e) →
      P g (s.fold kind.op kind.neutral g')) :
    P g (extractAt ![0, 0, 0] (shapeCast S1x1x1 (multiReductionI kind [1, 2] S1 (shapeCast S1x512x1 g shapeCasts_S512x1_S1x512x1) acc reduces_S1x512x1_S1 hacc)
      shapeCasts_S1_S1x1x1) inpos_S1x1x1_p0_0_0) := by
  unfold extractAt
  show P g (multiReductionI kind [1, 2] S1 (shapeCast S1x512x1 g shapeCasts_S512x1_S1x512x1) acc reduces_S1x512x1_S1 hacc _)
  rw [multiReductionI_eq_fold]
  subst hacc
  have hall : ∀ x, x ∈ Finset.univ.filter fun i => (reduces_S1x512x1_S1).drop i = Shape.reshapeEquiv shapeCasts_S1_S1x1x1 fun a => ⟨![0, 0, 0] a, inpos_S1x1x1_p0_0_0 a⟩ :=
    fun x => Finset.mem_filter.mpr ⟨Finset.mem_univ _, idx1_eq _ _⟩
  exact hP _ ⟨(Shape.reshapeEquiv shapeCasts_S512x1_S1x512x1).symm (fun a => ⟨0, by fin_cases a <;> simp [S512x1]⟩), hall _⟩ hall _
    ⟨Shape.reshapeEquiv shapeCasts_S512x1_S1x512x1, rfl⟩

/-- The greatest segment number is one of the block's and at least each of the others. -/
theorem segMax_spec (s : Vec F S512x1 .i32) : (∃ i, s i = segMax s) ∧ ∀ i, (s i : BitVec 32).toInt ≤ (segMax s).toInt := by
  have h : segMax s = extractAt ![0, 0, 0] (shapeCast S1x1x1 (multiReductionI .maxsi [1, 2] S1 (shapeCast S1x512x1 (s : IVec S512x1 32) shapeCasts_S512x1_S1x512x1)
      2147483648#32 reduces_S1x512x1_S1 rfl) shapeCasts_S1_S1x1x1) inpos_S1x1x1_p0_0_0 := by
    unfold segMax k0_pay20 k0_pay11
    rw [shapeCast_id]
  rw [h]
  refine reduce_column (kind := .maxsi) rfl (s : IVec S512x1 32) (fun g w => (∃ i, g i = w) ∧ ∀ i, (g i).toInt ≤ w.toInt) fun S hS hall g' ⟨e, he⟩ => ?_
  obtain ⟨a, -, h1, h2⟩ := fold_maxsi_attained S hS g'
  refine ⟨⟨e a, ?_⟩, fun i => ?_⟩
  · exact (congrFun he a).symm.trans h1.symm
  · have := h2 (e.symm i) (hall _)
    have e2 : g' (e.symm i) = s i := by rw [he]; simp
    rw [e2] at this
    exact this.trans (le_of_eq (congrArg BitVec.toInt h1.symm))

/-- Row `r` of block `n`, as the kernel computes it. -/
theorem row_toInt {n : ℕ} (hn : n < 32) (i : S512x1.Idx) :
    (IntOp.addi (iota .tc S512x1 32 [0] iota_S512x1_d0_w32 i) (Scalar.muli (BitVec.ofNat 32 n) 512#32)).toInt = 512 * n + (i 0).val
    ∧ (IntOp.addi (iota .tc S512x1 32 [0] iota_S512x1_d0_w32 i) (Scalar.muli (BitVec.ofNat 32 n) 512#32)) = BitVec.ofNat 32 (512 * n + (i 0).val) := by
  have hi : (i 0).val < 512 := (i 0).isLt
  have e : IntOp.addi (iota .tc S512x1 32 [0] iota_S512x1_d0_w32 i) (Scalar.muli (BitVec.ofNat 32 n) 512#32) = BitVec.ofNat 32 (512 * n + (i 0).val) := by
    have e1 : iota .tc S512x1 32 [0] iota_S512x1_d0_w32 i = BitVec.ofNat 32 (i 0).val := by
      unfold iota; simp only [List.foldl]; rw [Nat.zero_mul, Nat.zero_add]
    rw [e1]
    unfold IntOp.addi Scalar.muli IntOp.muli
    apply BitVec.eq_of_toNat_eq
    rw [BitVec.toNat_add, BitVec.toNat_mul, BitVec.toNat_ofNat, BitVec.toNat_ofNat, BitVec.toNat_ofNat, BitVec.toNat_ofNat]
    omega
  refine ⟨?_, e⟩
  rw [e, BitVec.toInt_ofNat']; simp [Int.bmod]; omega

/-- Where the block's greatest segment number starts: a row of the block that holds it, no later than any other. -/
theorem segFirst_spec {n : ℕ} (hn : n < 32) (s : Vec F S512x1 .i32) :
    ∃ i : S512x1.Idx, s i = segMax s ∧ segFirst n s = BitVec.ofNat 32 (512 * n + (i 0).val) ∧ ∀ i', s i' = segMax s → (i 0).val ≤ (i' 0).val := by
  obtain ⟨g, hg, h⟩ : ∃ g : IVec S512x1 32,
      (∀ i, g i = Scalar.select (IntOp.cmpi .eq (s i) (segMax s)) (IntOp.addi (iota .tc S512x1 32 [0] iota_S512x1_d0_w32 i) (Scalar.muli (BitVec.ofNat 32 n) 512#32)) 16384#32)
      ∧ segFirst n s = extractAt ![0, 0, 0] (shapeCast S1x1x1 (multiReductionI .minsi [1, 2] S1 (shapeCast S1x512x1 g shapeCasts_S512x1_S1x512x1)
          2147483647#32 reduces_S1x512x1_S1 rfl) shapeCasts_S1_S1x1x1) inpos_S1x1x1_p0_0_0 := by
    have e : k0_pay11 s = (s : IVec S512x1 32) := shapeCast_id _ _
    unfold segFirst
    rw [e]
    unfold k0_pay21
    generalize iota .tc S512x1 32 [0] iota_S512x1_d0_w32 = w
    generalize segMax s = m
    exact ⟨_, fun i => rfl, rfl⟩
  rw [h]
  refine reduce_column (kind := .minsi) rfl g (fun g w => ∃ i : S512x1.Idx, s i = segMax s ∧ w = BitVec.ofNat 32 (512 * n + (i 0).val)
    ∧ ∀ i' : S512x1.Idx, s i' = segMax s → (i 0).val ≤ (i' 0).val) fun S hS hall g' ⟨e, he⟩ => ?_
  obtain ⟨a, -, h1, h2⟩ := fold_minsi_attained S hS g'
  obtain ⟨j, hj⟩ := (segMax_spec s).1
  have val : ∀ i, s i = segMax s → g' (e.symm i) = BitVec.ofNat 32 (512 * n + (i 0).val) ∧ (g' (e.symm i)).toInt = 512 * n + (i 0).val := fun i hi => by
    have e2 : g' (e.symm i) = _ := ((congrFun he (e.symm i)).trans (congrArg g (e.apply_symm_apply i))).trans (hg i)
    rw [hi, cmp_self, select_set] at e2
    rw [e2]
    exact ⟨(row_toInt hn i).2, (row_toInt hn i).1⟩
  have ha : s (e a) = segMax s := by
    by_contra hne
    have e2 : g' a = 16384#32 := by
      refine ((congrFun he a).trans (hg (e a))).trans ?_
      rw [cmp_other hne, select_clear]
    have := h2 (e.symm j) (hall _)
    rw [e2, (val j hj).2, show (16384#32 : BitVec 32).toInt = 16384 from by decide] at this
    have hj : (j 0).val < 512 := (j 0).isLt
    omega
  have va := val (e a) ha
  rw [Equiv.symm_apply_apply] at va
  refine ⟨e a, ha, h1.trans va.1, fun i' hi' => ?_⟩
  have := h2 (e.symm i') (hall _)
  rw [va.2, (val i' hi').2] at this
  omega

end block

/-! ## The recursion over grid points -/

section recursion
variable {F : FTy → Type} [FloatOps F] (sb : ℕ → Vec F S512x1 .i32)

/-- The first row of the segment open after grid point `n`. -/
noncomputable def openRow : ℕ → BitVec 32
  | 0 => segFirst 0 (sb 0)
  | n + 1 => if segMax (sb (n + 1)) = segMax (sb n) then openRow n else segFirst (n + 1) (sb (n + 1))

/-- How many blocks are written out before grid point `n`. -/
noncomputable def done : ℕ → ℕ
  | 0 => 0
  | n + 1 => if 31 ≤ n then 32 else (openRow sb n).toNat / 512

/-- The recursion, one step on. -/
theorem done_succ (n : ℕ) : done sb (n + 1) = if 31 ≤ n then 32 else (openRow sb n).toNat / 512 := rfl

/-- The first row of a block's greatest segment number lies in the block. -/
theorem segFirst_toNat {n : ℕ} (hn : n < 32) (s : Vec F S512x1 .i32) : 512 * n ≤ (segFirst n s).toNat ∧ (segFirst n s).toNat < 512 * (n + 1) := by
  obtain ⟨i, -, h, -⟩ := segFirst_spec hn s
  have hi : (i 0).val < 512 := (i 0).isLt
  rw [h, BitVec.toNat_ofNat]; omega

/-- The open segment starts no later than the block just read. -/
theorem openRow_lt : ∀ {n : ℕ}, n < 32 → (openRow sb n).toNat < 512 * (n + 1)
  | 0, h => (segFirst_toNat h _).2
  | n + 1, h => by
    unfold openRow
    split
    · have := openRow_lt (n := n) (by omega); omega
    · exact (segFirst_toNat h _).2

/-- It never moves back. -/
theorem openRow_mono {n : ℕ} (h : n + 1 < 32) : (openRow sb n).toNat ≤ (openRow sb (n + 1)).toNat := by
  conv_rhs => unfold openRow
  split
  · exact le_rfl
  · have := openRow_lt sb (n := n) (by omega); have := (segFirst_toNat h (sb (n + 1))).1; omega

/-- No block is written out before it has been read. -/
theorem done_le (n : ℕ) : done sb n ≤ n := by
  cases n with
  | zero => exact le_rfl
  | succ n =>
    rw [done_succ]
    split
    · omega
    · have := openRow_lt sb (n := n) (by omega); omega

/-- Before the last grid point, the block just read is not written out yet. -/
theorem done_lt {n : ℕ} (h : n < 31) : done sb (n + 1) < n + 1 := by
  rw [done_succ]
  rw [if_neg (by omega)]
  have := openRow_lt sb (n := n) (by omega); omega

/-- There are 32 blocks to write. -/
theorem done_le32 (n : ℕ) : done sb n ≤ 32 := by
  cases n with
  | zero => exact Nat.zero_le _
  | succ n =>
    by_cases h : 31 ≤ n
    · rw [done_succ]; rw [if_pos h]
    · have := done_le sb (n + 1); omega

/-- In the end all are written. -/
theorem done_32 : done sb 32 = 32 := by rw [show 32 = 31 + 1 from rfl, done_succ, if_pos le_rfl]

/-- Blocks once written stay written. -/
theorem done_mono : Monotone (done sb) := by
  refine monotone_nat_of_le_succ fun n => ?_
  by_cases h : 31 ≤ n
  · have e : done sb (n + 1) = 32 := by rw [done_succ]; rw [if_pos h]
    rw [e]; exact done_le32 sb n
  · cases n with
    | zero => exact Nat.zero_le _
    | succ n =>
      rw [done_succ, done_succ, if_neg (by omega), if_neg h]
      exact Nat.div_le_div_right (openRow_mono sb (by omega))

/-- The grid point at which block `b` is written out. -/
noncomputable def writtenAt (b : ℕ) : ℕ := by
  classical exact if h : ∃ n, b < done sb (n + 1) then Nat.find h else 0

/-- The grid point at which a block is written out, from the two counts that enclose it. -/
theorem writtenAt_eq {b n : ℕ} (h1 : done sb n ≤ b) (h2 : b < done sb (n + 1)) : writtenAt sb b = n := by
  classical
  unfold writtenAt
  rw [dif_pos ⟨n, h2⟩, Nat.find_eq_iff]
  exact ⟨h2, fun m hm h => by have := done_mono sb (show m + 1 ≤ n by omega); omega⟩

/-- Every block is written out at some grid point. -/
theorem writtenAt_spec {b : ℕ} (hb : b < 32) : writtenAt sb b < 32 ∧ b < done sb (writtenAt sb b + 1) := by
  classical
  have hex : ∃ n, b < done sb (n + 1) := ⟨31, by rw [show 31 + 1 = 32 from rfl, done_32]; exact hb⟩
  unfold writtenAt
  rw [dif_pos hex]
  refine ⟨?_, Nat.find_spec hex⟩
  have := Nat.find_min' hex (m := 31) (by rw [show 31 + 1 = 32 from rfl, done_32]; exact hb)
  omega

/-- The kernel's word for the open row, from what its scalar memory held: the recursion's next step. -/
theorem openWord_eq {i : grid0.Coords} {n : ℕ} (hi : (i 0).val = n) (w1 w2 : BitVec 32)
    (hw : 0 < n → w1 = openRow sb (n - 1) ∧ w2 = segMax (sb (n - 1))) :
    openWord i (segMax (sb n)) (segFirst n (sb n)) w1 w2 = openRow sb n := by
  have hn : n < 32 := by rw [← hi]; exact (i 0).isLt
  unfold openWord
  rw [hi]
  cases n with
  | zero =>
    have : ∀ c : BitVec 1, Scalar.andi (Scalar.cmpi .sgt (BitVec.ofNat 32 0) 0#32) c = 0#1 := by decide
    rw [this, select_clear]; rfl
  | succ n =>
    have h1 : w1 = openRow sb n := (hw (Nat.succ_pos n)).1
    have h2 : w2 = segMax (sb n) := (hw (Nat.succ_pos n)).2
    rw [h1, h2]
    have g : Scalar.cmpi .sgt (BitVec.ofNat 32 (n + 1)) 0#32 = 1#1 := by
      have : ∀ k : Fin 32, 0 < k.val → Scalar.cmpi .sgt (BitVec.ofNat 32 k.val) 0#32 = 1#1 := by decide
      exact this ⟨n + 1, hn⟩ (by simp)
    have g2 : ∀ c : BitVec 1, Scalar.andi 1#1 c = c := by decide
    rw [g, g2]
    show Scalar.select (Scalar.cmpi .eq (segMax (sb (n + 1))) (segMax (sb n))) (openRow sb n) (segFirst (n + 1) (sb (n + 1))) = openRow sb (n + 1)
    conv_rhs => unfold openRow
    unfold Scalar.cmpi
    by_cases h : segMax (sb (n + 1)) = segMax (sb n)
    · rw [if_pos h, h, cmp_self, select_set]
    · rw [if_neg h, cmp_other h, select_clear]

/-- The blocks the loop of grid point `n` writes, from what the kernel's scalar memory held. -/
theorem span {i : grid0.Coords} {n : ℕ} (hi : (i 0).val = n) (w0 w1 w2 : BitVec 32)
    (hw : 0 < n → w0 = BitVec.ofNat 32 (done sb n) ∧ w1 = openRow sb (n - 1) ∧ w2 = segMax (sb (n - 1))) :
    Span i (segMax (sb n)) (segFirst n (sb n)) w1 w2 w0 (done sb n) (done sb (n + 1)) := by
  have hn : n < 32 := by rw [← hi]; exact (i 0).isLt
  refine ⟨?_, ?_, done_mono sb (by omega), done_le32 sb _⟩
  · unfold lowWord
    rw [hi]
    cases n with
    | zero => rfl
    | succ n =>
      rw [(hw (Nat.succ_pos n)).1]
      have : ∀ k : Fin 32, 0 < k.val → Scalar.cmpi .eq (BitVec.ofNat 32 k.val) 0#32 = 0#1 := by decide
      rw [this ⟨n + 1, hn⟩ (by simp)]; rfl
  · unfold rowsWord
    rw [openWord_eq sb hi w1 w2 (fun h => (hw h).2), hi]
    have g : ∀ k : Fin 32, Scalar.cmpi .eq (BitVec.ofNat 32 k.val) 31#32 = if 31 ≤ k.val then 1#1 else 0#1 := by decide
    rw [g ⟨n, hn⟩]
    show floorWord (Scalar.select (if 31 ≤ n then 1#1 else 0#1) _ _) = BitVec.ofNat 32 (if 31 ≤ n then 32 else (openRow sb n).toNat / 512)
    split
    · exact floorWord_ofNat 16384 le_rfl
    · have := openRow_lt sb hn
      show floorWord (openRow sb n) = _
      have e := floorWord_ofNat (openRow sb n).toNat (by omega)
      rwa [BitVec.ofNat_toNat, BitVec.setWidth_eq] at e

end recursion

end Cert.KernelIdeal.Blocks
-- ==== Proof.Ring.lean ====
module

public import proofs.«01_k».proof.Proof.Frontier
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Loops
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp
public import Idealize.ShloMosaic.Lib.VecWindow

/-!
# The ring of four write-backs

The kernel copies block `b` of the result out of slot `b % 4`, waiting first for the copy of block `b - 4` out of the
same slot. So with `w` blocks issued the last four (or fewer) are in flight, the ones before them are in the result
array, and the rows after them are as they were.
-/

@[expose] public section

set_option maxRecDepth 16384

noncomputable section

namespace Cert.KernelIdeal.Blocks

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A memref's contents on a device. -/
abbrev Held (c : Dev nD) {sp : Space} {s : Shape} {e : EltTy} (M : Memref sig .tc sp s e) : Type := Buf (Elt F) (M.view.loc (c : Thread nD τ))

/-- A memref held whole at contents `f`. -/
abbrev held (c : Dev nD) {sp : Space} {s : Shape} {e : EltTy} (M : Memref sig .tc sp s e) (f : Held (F := F) c M) : sProp 𝕄 :=
  M.view.loc (c : Thread nD τ) ↦{fullShare} f

/-- The result array. -/
abbrev outM : Memref sig .tc .hbm S16384x512 .f32 := Memref.whole main_v1

/-- The rows of the result array below `n`. -/
def rowsBelow (n : ℕ) : Finset S16384x512.Idx := Finset.univ.filter fun i => (i 0).val < n
/-- The rows from `n` on. -/
def rowsFrom (n : ℕ) : Finset S16384x512.Idx := Finset.univ.filter fun i => n ≤ (i 0).val
/-- The rows of block `b`. -/
def rowsOf (b : ℕ) : Finset S16384x512.Idx := Finset.univ.filter fun i => 512 * b ≤ (i 0).val ∧ (i 0).val < 512 * (b + 1)

/-- Block `b` of the result array. -/
abbrev blockM (off : Fin 2 → ℕ) (h : ∀ a, off a + S512x512.size a ≤ S16384x512.size a) : Memref sig .tc .hbm S512x512 .f32 :=
  outM.slice (Rect.unit (s := S16384x512) off S512x512.size h) (fun _ => rfl)

/-- The rows a copy of block `b` writes. -/
theorem set_block {off : Fin 2 → ℕ} {b : ℕ} (ho : off = ![512 * b, 0]) (h : ∀ a, off a + S512x512.size a ≤ S16384x512.size a) :
    (blockM off h).view.set = rowsOf b := by
  subst ho
  refine (View.set_slice_whole main_v1 _).trans ?_
  ext i
  have hi : (i 1).val < 512 := (i 1).isLt
  refine Rect.mem_set_unit.trans ?_
  refine Iff.trans ?_ (Finset.mem_filter.trans (and_iff_right (Finset.mem_univ _))).symm
  refine Fin.forall_fin_two.trans ?_
  show (512 * b ≤ (i 0).val ∧ (i 0).val < 512 * b + 512) ∧ (0 ≤ (i 1).val ∧ (i 1).val < 0 + 512) ↔ 512 * b ≤ (i 0).val ∧ (i 0).val < 512 * (b + 1)
  omega

/-- The rows from a block on: the block's, and those from the next block on. -/
theorem rowsFrom_split (b : ℕ) : rowsFrom (512 * b) = rowsOf b ∪ rowsFrom (512 * (b + 1)) := by
  ext i; simp only [rowsFrom, rowsOf, Finset.mem_union, Finset.mem_filter, Finset.mem_univ, true_and]; omega

/-- A block's rows are none of those from the next block on. -/
theorem rowsOf_disjoint (b : ℕ) : Disjoint (rowsOf b) (rowsFrom (512 * (b + 1))) := by
  rw [Finset.disjoint_left]; intro i; simp only [rowsFrom, rowsOf, Finset.mem_filter, Finset.mem_univ, true_and]; omega

/-- The rows below the next block: those below the block, and the block's. -/
theorem rowsBelow_split (b : ℕ) : rowsBelow (512 * (b + 1)) = rowsBelow (512 * b) ∪ rowsOf b := by
  ext i; simp only [rowsBelow, rowsOf, Finset.mem_union, Finset.mem_filter, Finset.mem_univ, true_and]; omega

/-- A block's rows are none of those below it. -/
theorem rowsBelow_disjoint (b : ℕ) : Disjoint (rowsBelow (512 * b)) (rowsOf b) := by
  rw [Finset.disjoint_left]; intro i; simp only [rowsBelow, rowsOf, Finset.mem_filter, Finset.mem_univ, true_and]; omega

/-- What one copy of a block adds to its semaphore. -/
abbrev credit : ℕ := (blockM ![0, 0] inb_S16384x512_S512x512_0_0).view.dmaCredit

variable (c : Dev nD) (G : S16384x512.Idx → Elt F .f32)

/-- The blocks already in the result array when `w` are issued. -/
def landed (w : ℕ) : sProp 𝕄 := outM.view.loc (c : Thread nD τ) ↦[rowsBelow (512 * (w - 4))]{fullShare} (G : Held (F := F) c outM)

/-- The rows of the result array not yet issued. -/
def pending (w : ℕ) : sProp 𝕄 := iprop(∃ f : Held (F := F) c outM, outM.view.loc (c : Thread nD τ) ↦[rowsFrom (512 * w)]{fullShare} f)

/-- A slot at rest, or lent to the copy of block `b`. -/
def slot (s : Memref sig .tc .vmem S512x512 .f32) (sm : DmaSem sig) : Option ℕ → sProp 𝕄
  | none => iprop((∃ f : Held (F := F) c s, held c s f) ∗ semVal ((c : Thread nD τ), SemLoc.dma sm) 0)
  | some b => iprop(∃ f : Held (F := F) c s, Transfers.Flight (countersEmb (U := Pipeline.UD sig nD τ)) (c : Thread nD τ) (.dma sm) () credit
      iprop((outM.view.loc (c : Thread nD τ) ↦[rowsOf b]{fullShare} (G : Held (F := F) c outM)) ∗ held c s f))

/-- What slot `k` holds when `w` blocks are issued: the last of them that is `k` modulo 4. -/
def holds (w k : ℕ) : Option ℕ := if w ≤ k then none else some (w - 1 - (w - 1 - k) % 4)

/-- One step of the ring: wait for the slot's copy if it has one, fill the slot, copy it out. -/
def stage (s : Memref sig .tc .vmem S512x512 .f32) (hs : s.IsWhole) (sm : DmaSem sig) (w : BitVec 32) (y : FVec F S512x512 .f32)
    (off : Fin 2 → ℕ) (hoff : ∀ a, off a + S512x512.size a ≤ S16384x512.size a) : Prog (TpuEff nD τ sig (Elt F) Λ₀ .tc) PUnit := do
  if Scalar.cmpi .ne (Scalar.extui (Scalar.cmpi .sge w 4#32) : BitVec 32) 0#32 = 1#1 then do
    Prog.lift (.waitDma2 sm s (outM.slice (Rect.unit (s := S16384x512) ![0, 0] S512x512.size inb_S16384x512_S512x512_0_0) (fun _ => rfl)) hs.wordExact (View.wordExact_bits rfl))
    pure ⟨⟩
  else do
    pure ⟨⟩
  let v : Vec F S512x512 .f32 ← Prog.lift (.load s (Rect.unit (s := S512x512) ![0, 0] S512x512.size inb_S512x512_S512x512_0_0).toLoadRect (View.loadsAt_vmem h_S512x512))
  Prog.lift (.store s (Rect.unit (s := S512x512) ![0, 0] S512x512.size inb_S512x512_S512x512_0_0) (k0_pay1 y) Finset.univ (View.stores_vmem_bits_univ h_S512x512 rfl) (.inl rfl))
  Prog.lift (.enqueueDma s (.here (outM.slice (Rect.unit (s := S16384x512) off S512x512.size hoff) (fun _ => rfl))) (.dma sm) hs.wordExact (View.wordExact_bits rfl) ⟨Or.inl rfl, trivial⟩)
  pure ⟨⟩

/-- Issuing the copy of block `b` from a slot that holds the block's result. -/
theorem wp_issue (s : Memref sig .tc .vmem S512x512 .f32) (hs : s.IsWhole) (sm : DmaSem sig) (b : ℕ) (hb : b < 32) (y : FVec F S512x512 .f32)
    (hy : ∀ j : S512x512.Idx, y j = G (ix2 ⟨512 * b + (j 0).val, by have h : (j 0).val < 512 := (j 0).isLt; show _ < 16384; omega⟩ (j 1)))
    (off : Fin 2 → ℕ) (ho : off = ![512 * b, 0]) (hoff : ∀ a, off a + S512x512.size a ≤ S16384x512.size a)
    {hsrc : s.view.WordExact} {hdst : (DmaTarget.here (nD := nD) (τ := τ) (sig := sig) (p := (Proc.tc : Proc τ)) (blockM off hoff)).view.WordExact}
    {hsem : DmaTarget.Typed (nD := nD) (τ := τ) (p := (Proc.tc : Proc τ)) .vmem (.dma sm) (.here (blockM off hoff))}
    (f : Held (F := F) c s) (hf : s.view.read (Elt F) f = y) (k : PUnit → Prog (TpuEff nD τ sig (Elt F) Λ₀ .tc) PUnit) (K : PUnit → sProp 𝕄) :
    iprop(held c s f ∗ pending c b ∗ semVal ((c : Thread nD τ), SemLoc.dma sm) 0
      ∗ ((slot c G s sm (some b) ∗ pending c (b + 1)) -∗ wp frame (wpE (defs₀ (F := F)) Variants.none (c : Thread nD τ) none) Set.univ (k ⟨⟩) K))
      ⊢ wp frame (wpE (defs₀ (F := F)) Variants.none (c : Thread nD τ) none) Set.univ (.op (.enqueueDmaAs s (.here (blockM off hoff)) .same (.dma sm) hsrc hdst hsem) k) K := by
  unfold pending
  iintro ⟨Hs, ⟨%g, HP⟩, Hv, Hk⟩
  rw [rowsFrom_split b]
  ihave HP' := (pointsTo_union (rowsOf_disjoint b)).1 $$ HP
  icases HP' with ⟨HB, HR⟩
  rw [← set_block ho hoff]
  have h1 : (blockM off hoff).view.amount (.dma sm) = credit := rfl
  have h2 : 0 < credit := View.dmaCredit_pos _ (by decide)
  have hx := Transfers.wp_dmaLocal (countersEmb (U := Pipeline.UD sig nD τ)) (defs := defs₀ (F := F)) Variants.none (c : Thread nD τ) none (Q := K) (via := .same)
    (hsrc := hsrc) (hdst := hdst) (hsem := hsem) (k := k) () credit h1 h2 subset_rfl (q := fullShare) (fd := g) (fs := f)
  rw [hs.set_eq_univ] at hx
  iapply hx $$ [Hs HB Hv]
  · isplitl [Hs]; · iexact Hs
    isplitl [HB]; · iexact HB
    iexact Hv
  iintro HF
  iapply Hk
  isplitl [HF]
  · unfold slot
    iexists f
    have hG : ((blockM off hoff).view.loc (c : Thread nD τ) ↦[(blockM off hoff).view.set]{fullShare} ((blockM off hoff).view.write (Elt F) g (ReadAs.same.apply (s.view.read (Elt F) f)) Finset.univ) : sProp 𝕄)
        = (outM.view.loc (c : Thread nD τ) ↦[rowsOf b]{fullShare} (G : Held (F := F) c outM)) := by
      rw [hf]
      refine (pointsTo_congr (g := (G : Held (F := F) c outM)) fun i hi => ?_).trans (by rw [set_block ho hoff])
      obtain ⟨j, -, rfl⟩ := Finset.mem_map.mp hi
      refine (View.write_emb_of_mem (v := (blockM off hoff).view) (Val := Elt F) g y (Finset.mem_univ j)).trans ?_
      refine (cast_eq _ _).trans ((hy j).trans (congrArg G ?_))
      subst ho
      funext a
      match a with
      | ⟨0, _⟩ => exact Fin.ext (show 512 * b + (j 0).val = 512 * b + 1 * (j 0).val by omega)
      | ⟨1, _⟩ => exact Fin.ext (show (j 1).val = 0 + 1 * (j 1).val by omega)
    iapply (Transfers.Flight_mono (countersEmb (U := Pipeline.UD sig nD τ)) (c : Thread nD τ) (sm := .dma sm) (ι := ()) (N := credit) (Entails.of_eq (congrArg (fun X => iprop(X ∗ held c s f)) hG))) $$ [HF]
    iexact HF
  · iexists g; iexact HR

/-- The step from `w` blocks issued to `w + 1`. -/
theorem wp_stage (s : Memref sig .tc .vmem S512x512 .f32) (hs : s.IsWhole) (sm : DmaSem sig) (w : ℕ) (hw : w < 32) (y : FVec F S512x512 .f32)
    (hy : ∀ j : S512x512.Idx, y j = G (ix2 ⟨512 * w + (j 0).val, by have h : (j 0).val < 512 := (j 0).isLt; show _ < 16384; omega⟩ (j 1)))
    (off : Fin 2 → ℕ) (ho : off = ![512 * w, 0]) (hoff : ∀ a, off a + S512x512.size a ≤ S16384x512.size a)
    (W : Waits sig Unit) (K : PUnit → sProp 𝕄) :
    iprop(slot c G s sm (if w < 4 then none else some (w - 4)) ∗ landed c G w ∗ pending c w ∗ owes (c : Thread nD τ) 0 W
      ∗ ((slot c G s sm (some w) ∗ landed c G (w + 1) ∗ pending c (w + 1) ∗ (∃ W', owes (c : Thread nD τ) 0 W')) -∗ K ⟨⟩))
      ⊢ wp frame (wpE (defs₀ (F := F)) Variants.none (c : Thread nD τ) none) Set.univ (stage s hs sm (BitVec.ofNat 32 w) y off hoff) K := by
  unfold stage
  have hc : Scalar.cmpi .ne (Scalar.extui (Scalar.cmpi .sge (BitVec.ofNat 32 w) 4#32) : BitVec 32) 0#32 = 1#1 ↔ 4 ≤ w := by
    have h : ∀ k : Fin 32, Scalar.cmpi .ne (Scalar.extui (Scalar.cmpi .sge (BitVec.ofNat 32 k.val) 4#32) : BitVec 32) 0#32 = 1#1 ↔ 4 ≤ k.val := by decide
    exact h ⟨w, hw⟩
  have hpay : k0_pay1 y = y := shapeCast_id _ _
  by_cases h4 : w < 4
  · rw [if_pos h4]
    simp only [if_neg (mt hc.1 (show ¬ 4 ≤ w by omega))]
    unfold slot landed
    iintro ⟨⟨⟨%f, Hs⟩, Hv⟩, HL, HP, HO, Hk⟩
    sl_exec
    iapply (wp_issue c G s hs sm w hw y hy off ho hoff _ ((View.read_writes_full s.view _ inb_S512x512_S512x512_0_0 _ []).trans hpay)) $$ [-]
    isplitl [Hs]; · iexact Hs
    isplitl [HP]; · iexact HP
    isplitl [Hv]; · iexact Hv
    iintro ⟨HF, HP⟩
    sl_exec
    sl_step
    iapply Hk
    isplitl [HF]; · unfold slot; iexact HF
    isplitl [HL]
    · rw [show w + 1 - 4 = w - 4 by omega]; iexact HL
    isplitl [HP]; · iexact HP
    iexists W; iexact HO
  · rw [if_neg h4]
    simp only [if_pos (hc.2 (show 4 ≤ w by omega))]
    unfold slot landed
    iintro ⟨⟨%f, HF⟩, HL, HP, HO, Hk⟩
    sl_exec
    iapply (wp_issue c G s hs sm w hw y hy off ho hoff _ ((View.read_writes_full s.view _ inb_S512x512_S512x512_0_0 _ []).trans hpay)) $$ [-]
    isplitl [HF_src]; · iexact HF_src
    isplitl [HP]; · iexact HP
    isplitl [HF]; · iexact HF
    iintro ⟨HF, HP⟩
    sl_exec
    sl_step
    iapply Hk
    isplitl [HF]; · unfold slot; iexact HF
    isplitl [HL HF_dst]
    · rw [show w + 1 - 4 = (w - 4) + 1 by omega, rowsBelow_split]
      iapply (pointsTo_union (rowsBelow_disjoint (w - 4))).2
      isplitl [HL]; · iexact HL
      iexact HF_dst
    isplitl [HP]; · iexact HP
    iexists (insert (SemLoc.dma sm, ()) W); iexact HO

/-- Writing block `w` turns what its slot holds to block `w` in flight and leaves the other slots as they were. -/
theorem holds_step {w k : ℕ} (hk : k < 4) (h : w % 4 = k) : holds w k = (if w < 4 then none else some (w - 4)) ∧ holds (w + 1) k = some w := by
  unfold holds
  constructor
  · split <;> split <;> first | rfl | omega | (congr 1; omega)
  · rw [if_neg (by omega)]; congr 1; omega

/-- The slots other than the step's hold what they held. -/
theorem holds_other {w k : ℕ} (hk : k < 4) (h : w % 4 ≠ k) : holds (w + 1) k = holds w k := by
  unfold holds
  split <;> split <;> first | rfl | omega | (congr 1; omega)

end Cert.KernelIdeal.Blocks
-- ==== Proof.Trip.lean ====
module

public import proofs.«01_k».proof.Proof.Ring

/-!
# One trip of the write-out loop

Trip `k` of grid point `t`'s loop normalises block `done t + k` with the statistics held in the two scratch rows and
hands it to the slot its number picks.
-/

@[expose] public section

set_option maxRecDepth 16384

noncomputable section

namespace Cert.KernelIdeal.Blocks

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The copy of all rows read so far, the four slots, the two rows of statistics and the scalar memory. -/
abbrev rowsM : Memref sig .tc .vmem S16384x512 .f32 := Memref.whole cc0_scratch0
/-- The ring's first slot. -/
abbrev slotM0 : Memref sig .tc .vmem S512x512 .f32 := Memref.whole cc0_scratch1
/-- The ring's second slot. -/
abbrev slotM1 : Memref sig .tc .vmem S512x512 .f32 := Memref.whole cc0_scratch2
/-- The ring's third slot. -/
abbrev slotM2 : Memref sig .tc .vmem S512x512 .f32 := Memref.whole cc0_scratch3
/-- The ring's fourth slot. -/
abbrev slotM3 : Memref sig .tc .vmem S512x512 .f32 := Memref.whole cc0_scratch4
/-- The running minima. -/
abbrev minM : Memref sig .tc .vmem S8x128 .f32 := Memref.whole cc0_scratch5
/-- The running maxima. -/
abbrev maxM : Memref sig .tc .vmem S8x128 .f32 := Memref.whole cc0_scratch6
/-- The three words carried from one grid point to the next. -/
abbrev wordsM : Memref sig .tc .smem S4 .i32 := Memref.whole cc0_scratch7

variable (c : Dev nD) (G : S16384x512.Idx → Elt F .f32)

/-- The four slots and their semaphores, by number. -/
abbrev slotM : Fin 4 → Memref sig .tc .vmem S512x512 .f32 := ![slotM0, slotM1, slotM2, slotM3]
/-- The slots' semaphores. -/
abbrev slotSem : Fin 4 → DmaSem sig := ![3, 4, 5, 6]

/-- Each slot is a whole buffer. -/
theorem slotM_whole : ∀ k, (slotM k).IsWhole
  | ⟨0, _⟩ | ⟨1, _⟩ | ⟨2, _⟩ | ⟨3, _⟩ => Memref.isWhole_whole _

/-- Slot `k` when `w` blocks are issued. -/
abbrev slotAt (w : ℕ) (k : Fin 4) : sProp 𝕄 := slot c G (slotM k) (slotSem k) (holds w k.val)

/-- The whole ring with `w` blocks issued. -/
def ring (w : ℕ) : sProp 𝕄 :=
  iprop(landed c G w ∗ pending c w ∗ slotAt c G w 0 ∗ slotAt c G w 1 ∗ slotAt c G w 2 ∗ slotAt c G w 3)

/-- The slot block `w` uses, taken out of the ring, and put back once the block is issued. -/
theorem ring_open (w : ℕ) (k : Fin 4) (hk : w % 4 = k.val) :
    ring c G w ⊢ iprop(slotAt c G w k ∗ landed c G w ∗ pending c w
      ∗ ((slotAt c G (w + 1) k ∗ landed c G (w + 1) ∗ pending c (w + 1)) -∗ ring c G (w + 1))) := by
  have ho : ∀ j : Fin 4, j ≠ k → slotAt c G (w + 1) j = slotAt c G w j := fun j hj => by
    unfold slotAt; rw [holds_other j.isLt (fun h => hj (Fin.ext (h.symm.trans hk)))]
  unfold ring
  iintro ⟨HL, HP, S0, S1, S2, S3⟩
  match k, ho with
  | 0, ho =>
    rw [ho 1 (by decide), ho 2 (by decide), ho 3 (by decide)]
    isplitl [S0]; · iexact S0
    isplitl [HL]; · iexact HL
    isplitl [HP]; · iexact HP
    iintro ⟨S0, HL, HP⟩
    isplitl [HL]; · iexact HL
    isplitl [HP]; · iexact HP
    isplitl [S0]; · iexact S0
    isplitl [S1]; · iexact S1
    isplitl [S2] <;> iassumption
  | 1, ho =>
    rw [ho 0 (by decide), ho 2 (by decide), ho 3 (by decide)]
    isplitl [S1]; · iexact S1
    isplitl [HL]; · iexact HL
    isplitl [HP]; · iexact HP
    iintro ⟨S1, HL, HP⟩
    isplitl [HL]; · iexact HL
    isplitl [HP]; · iexact HP
    isplitl [S0]; · iexact S0
    isplitl [S1]; · iexact S1
    isplitl [S2] <;> iassumption
  | 2, ho =>
    rw [ho 0 (by decide), ho 1 (by decide), ho 3 (by decide)]
    isplitl [S2]; · iexact S2
    isplitl [HL]; · iexact HL
    isplitl [HP]; · iexact HP
    iintro ⟨S2, HL, HP⟩
    isplitl [HL]; · iexact HL
    isplitl [HP]; · iexact HP
    isplitl [S0]; · iexact S0
    isplitl [S1]; · iexact S1
    isplitl [S2] <;> iassumption
  | 3, ho =>
    rw [ho 0 (by decide), ho 1 (by decide), ho 2 (by decide)]
    isplitl [S3]; · iexact S3
    isplitl [HL]; · iexact HL
    isplitl [HP]; · iexact HP
    iintro ⟨S3, HL, HP⟩
    isplitl [HL]; · iexact HL
    isplitl [HP]; · iexact HP
    isplitl [S0]; · iexact S0
    isplitl [S1]; · iexact S1
    isplitl [S2] <;> iassumption

/-- A step of the ring, at whichever slot the block's number picks. -/
theorem wp_ring (w : ℕ) (hw : w < 32) (a : BitVec 32) (ha : a = BitVec.ofNat 32 w) (k : Fin 4) (hk : w % 4 = k.val) (y : FVec F S512x512 .f32)
    (hy : ∀ j : S512x512.Idx, y j = G (ix2 ⟨512 * w + (j 0).val, by have h : (j 0).val < 512 := (j 0).isLt; show _ < 16384; omega⟩ (j 1)))
    (off : Fin 2 → ℕ) (ho : off = ![512 * w, 0]) (hoff : ∀ a, off a + S512x512.size a ≤ S16384x512.size a) (K : PUnit → sProp 𝕄) :
    iprop(ring c G w ∗ (∃ W : Waits sig Unit, owes (c : Thread nD τ) 0 W) ∗ ((ring c G (w + 1) ∗ (∃ W : Waits sig Unit, owes (c : Thread nD τ) 0 W)) -∗ K ⟨⟩))
      ⊢ wp frame (wpE (defs₀ (F := F)) Variants.none (c : Thread nD τ) none) Set.univ (stage (slotM k) (slotM_whole k) (slotSem k) a y off hoff) K := by
  subst ha
  iintro ⟨HR, ⟨%W, HO⟩, Hk⟩
  ihave HR := (ring_open c G w k hk) $$ HR
  icases HR with ⟨HS, HL, HP, Hback⟩
  have h1 := (holds_step k.isLt hk).1
  have h2 := (holds_step k.isLt hk).2
  unfold slotAt
  rw [h1, h2]
  iapply (wp_stage c G (slotM k) (slotM_whole k) (slotSem k) w hw y hy off ho hoff W K) $$ [-]
  isplitl [HS]; · iexact HS
  isplitl [HL]; · iexact HL
  isplitl [HP]; · iexact HP
  isplitl [HO]; · iexact HO
  iintro ⟨HS, HL, HP, HO⟩
  iapply Hk
  isplitl [HS HL HP Hback]
  · iapply Hback
    isplitl [HS]; · iexact HS
    isplitl [HL]; · iexact HL
    iexact HP
  · iexact HO

/-- The segment numbers' lane index, as the kernel builds it. -/
abbrev lanes : IVec S512x128 32 := iota .tc S512x128 32 [1] iota_S512x128_d1_w32

section trip
variable (arg2 : Memref sig .tc .vmem S16384x1 .i32) (f2 : Held (F := F) c arg2) (f9 : Held (F := F) c minM) (f10 : Held (F := F) c maxM) (f4 : Held (F := F) c rowsM)

/-- What the loop reads and what it changes. -/
def looping (w : ℕ) : sProp 𝕄 :=
  iprop(held c arg2 f2 ∗ held c minM f9 ∗ held c maxM f10 ∗ held c rowsM f4 ∗ ring c G w ∗ (∃ W : Waits sig Unit, owes (c : Thread nD τ) 0 W))

/-- The block the loop computes is the one the result array is to hold. -/
def Computes (b : ℕ) : Prop :=
  ∀ (off off' : Fin 2 → ℕ) (_ : off = ![512 * b, 0]) (_ : off' = ![512 * b, 0]) (h : ∀ a, off a + S512x1.size a ≤ S16384x1.size a) (h' : ∀ a, off' a + S512x512.size a ≤ S16384x512.size a)
    (hb : b < 32) (j : S512x512.Idx),
    k0_pay9 lanes (arg2.view.readAt (Elt F) (Rect.unit (s := S16384x1) off S512x1.size h).toLoadRect f2)
      (minM.view.readAt (Elt F) (Rect.unit (s := S8x128) ![0, 0] S1x128.size inb_S8x128_S1x128_0_0).toLoadRect f9)
      (maxM.view.readAt (Elt F) (Rect.unit (s := S8x128) ![0, 0] S1x128.size inb_S8x128_S1x128_0_0).toLoadRect f10)
      (rowsM.view.readAt (Elt F) (Rect.unit (s := S16384x512) off' S512x512.size h').toLoadRect f4) j
    = G (ix2 ⟨512 * b + (j 0).val, by have h : (j 0).val < 512 := (j 0).isLt; show _ < 16384; omega⟩ (j 1))

/-- One trip. -/
theorem wp_trip (i : grid0.Coords) (arg1 : Memref sig .tc .vmem S512x512 .f32) (harg1 : arg1.IsWhole) (harg2 : arg2.IsWhole)
    (v38 v50 v51 v52 v79 : BitVec 32) {d e : ℕ} (hS : Span i v38 v50 v51 v52 v79 d e) (hw1 : k0_chk1 i v38 v50 v51 v52 v79)
    (hG : ∀ b, d ≤ b → b < e → Computes c G arg2 f2 f9 f10 f4 b)
    (k : Fin (k0_t1_loop i v38 v50 v51 v52 v79).trips) :
    looping c G arg2 f2 f9 f10 f4 (d + k.val)
      ⊢ wp frame (wpE (defs₀ (F := F)) Variants.none (c : Thread nD τ) none) Set.univ
        (k0_t1_body (F := F) i arg1 harg1 arg2 harg2 outM (Memref.isWhole_whole _) rowsM (Memref.isWhole_whole _) slotM0 (Memref.isWhole_whole _) slotM1 (Memref.isWhole_whole _)
          slotM2 (Memref.isWhole_whole _) slotM3 (Memref.isWhole_whole _) minM (Memref.isWhole_whole _) maxM (Memref.isWhole_whole _) wordsM (Memref.isWhole_whole _) cc0_scratch8
          lanes v38 v50 v51 v52 v79 hw1 (lowWord i v79) k ())
        (fun _ => looping c G arg2 f2 f9 f10 f4 (d + k.val + 1)) := by
  have hlt : d + k.val < e := by
    have h1 := lt_of_lt_of_eq k.isLt hS.trips
    omega
  have hlt32 : d + k.val < 32 := lt_of_lt_of_le hlt hS.le32
  obtain ⟨q, hq, off, ho, hoff, e⟩ : ∃ q : Fin 4, (d + k.val) % 4 = q.val ∧ ∃ off, off = ![512 * (d + k.val), 0] ∧ ∃ hoff,
      k0_t1_body (F := F) i arg1 harg1 arg2 harg2 outM (Memref.isWhole_whole _) rowsM (Memref.isWhole_whole _) slotM0 (Memref.isWhole_whole _) slotM1 (Memref.isWhole_whole _)
          slotM2 (Memref.isWhole_whole _) slotM3 (Memref.isWhole_whole _) minM (Memref.isWhole_whole _) maxM (Memref.isWhole_whole _) wordsM (Memref.isWhole_whole _) cc0_scratch8
          lanes v38 v50 v51 v52 v79 hw1 (lowWord i v79) k ()
        = (do
          let r ← k0_part1 (F := F) i arg1 harg1 arg2 harg2 outM (Memref.isWhole_whole _) rowsM (Memref.isWhole_whole _) slotM0 (Memref.isWhole_whole _) slotM1 (Memref.isWhole_whole _) slotM2 (Memref.isWhole_whole _) slotM3 (Memref.isWhole_whole _) minM (Memref.isWhole_whole _) maxM (Memref.isWhole_whole _) wordsM (Memref.isWhole_whole _) cc0_scratch8 lanes v38 v50 v51 v52 v79 hw1 (lowWord i v79) 1#32 k
          stage (slotM q) (slotM_whole q) (slotSem q) r.1 r.2.1 off hoff) := by
    unfold k0_t1_body
    by_cases h3 : k0_cond3 i v38 v50 v51 v52 v79 k = 1#1
    · have m3 := (hS.cond3 k).1 h3
      by_cases h4 : k0_cond4 i v38 v50 v51 v52 v79 k = 1#1
      · have m4 := (hS.cond4 k).1 h4
        by_cases h5 : k0_cond5 i v38 v50 v51 v52 v79 k = 1#1
        · have m5 := (hS.cond5 k).1 h5
          refine ⟨3, show _ = 3 by omega, _, hS.off5 k, k0_off5_inb i v38 v50 v51 v52 v79 hw1 k h3 h4 h5, ?_⟩
          simp only [dif_pos h3, dif_pos h4, dif_pos h5]; rfl
        · have m5 := mt (hS.cond5 k).2 h5
          refine ⟨2, show _ = 2 by omega, _, hS.off6 k, k0_off6_inb i v38 v50 v51 v52 v79 hw1 k h3 h4 h5, ?_⟩
          simp only [dif_pos h3, dif_pos h4, dif_neg h5]; rfl
      · have m4 := mt (hS.cond4 k).2 h4
        refine ⟨1, show _ = 1 by omega, _, hS.off7 k, k0_off7_inb i v38 v50 v51 v52 v79 hw1 k h3 h4, ?_⟩
        simp only [dif_pos h3, dif_neg h4]; rfl
    · have m3 := mt (hS.cond3 k).2 h3
      refine ⟨0, show _ = 0 by omega, _, hS.off8 k, k0_off8_inb i v38 v50 v51 v52 v79 hw1 k h3, ?_⟩
      simp only [dif_neg h3]; rfl
  rw [e, k0_part1_eq_skeleton]
  unfold k0_part1_skel looping
  iintro ⟨H2, H9, H10, H4, HR, HO⟩
  sl_exec
  iapply (wp_ring c G (d + k.val) hlt32 (Scf.iv (lowWord i v79) 1#32 k) (hS.iv k) q hq _ (hG (d + k.val) (Nat.le_add_right _ _) hlt _ _ (hS.off3 k) (hS.off4 k) _ _ hlt32) off ho hoff) $$ [-]
  isplitl [HR]; · iexact HR
  isplitl [HO]; · iexact HO
  iintro ⟨HR, HO⟩
  isplitl [H2]; · iexact H2
  isplitl [H9]; · iexact H9
  isplitl [H10]; · iexact H10
  isplitl [H4]; · iexact H4
  isplitl [HR] <;> iassumption

end trip

end Cert.KernelIdeal.Blocks
-- ==== Proof.State.lean ====
module

public import proofs.«01_k».proof.Proof.Trip
public import Idealize.ShloMosaic.Lib.WritesUnit
public import Idealize.ShloMosaic.Lib.CellWrites

/-!
# What the scratch memories hold before each grid point

Stated over the blocks of the first argument (`xb`) and the segment numbers (`seg`): the two rows of statistics, and the
result array `outG`, whose block `b` is normalised with the statistics at the grid point that writes it.
-/

@[expose] public section

set_option maxRecDepth 16384

noncomputable section

namespace Cert.KernelIdeal.Blocks

open Cert.KernelIdeal Cert.KernelIdeal.Gen
open Idealize.ShloMosaic Idealize.ShloMosaic.TcCoe

variable {F : FTy → Type} [FloatOps F]
variable (xb : ℕ → Vec F S512x512 .f32) (seg : Vec F S16384x1 .i32)

/-- The segment numbers of block `b`'s rows. -/
def sblk (b : ℕ) : Vec F S512x1 .i32 := fun j => seg (ix2 ⟨(512 * b + (j 0).val) % 16384, Nat.mod_lt _ (by decide)⟩ (j 1))

/-- The running minimum of each segment after grid point `n`. -/
def stMin : ℕ → Vec F S1x128 .f32
  | 0 => k0_pay16 (sblk seg 0) (xb 0)
  | n + 1 => k0_pay18 (sblk seg (n + 1)) (xb (n + 1)) (stMin n)

/-- The running maximum of each segment after grid point `n`. -/
def stMax : ℕ → Vec F S1x128 .f32
  | 0 => k0_pay17 (sblk seg 0) (xb 0)
  | n + 1 => k0_pay19 (sblk seg (n + 1)) (xb (n + 1)) (stMax n)

/-- A row and column of the whole array within its block. -/
def inBlk (i : S16384x512.Idx) : S512x512.Idx := ix2 ⟨(i 0).val % 512, Nat.mod_lt _ (by decide)⟩ (i 1)

/-- The first argument, put together from its blocks. -/
def xAll : S16384x512.Idx → Elt F .f32 := fun i => xb ((i 0).val / 512) (inBlk i)

/-- Block `b` of the result. -/
def outB (b : ℕ) : FVec F S512x512 .f32 :=
  k0_pay9 lanes (sblk seg b) (stMin xb seg (writtenAt (sblk seg) b)) (stMax xb seg (writtenAt (sblk seg) b)) (xb b)

/-- The result array. -/
def outG : S16384x512.Idx → Elt F .f32 := fun i => outB xb seg ((i 0).val / 512) (inBlk i)

/-- The rectangle of the one row of statistics. -/
abbrev statRect : LoadRect S8x128 := (Rect.unit (s := S8x128) ![0, 0] S1x128.size inb_S8x128_S1x128_0_0).toLoadRect

section
variable (c : Dev nD) (arg2 : Memref sig .tc .vmem S16384x1 .i32)
  (f2 : Held (F := F) c arg2) (f9 : Held (F := F) c minM) (f10 : Held (F := F) c maxM) (f4 : Held (F := F) c rowsM)

/-- Rows `b` of the segment numbers, loaded at the block's offset. -/
theorem read_seg (h2 : arg2.view.read (Elt F) f2 = seg) {b : ℕ} (hb : b < 32) {off : Fin 2 → ℕ} (ho : off = ![512 * b, 0])
    (h : ∀ a, off a + S512x1.size a ≤ S16384x1.size a) :
    arg2.view.readAt (Elt F) (Rect.unit (s := S16384x1) off S512x1.size h).toLoadRect f2 = sblk seg b := by
  subst ho h2
  funext j
  have hj : (j 0).val < 512 := (j 0).isLt
  refine congrArg (arg2.view.read (Elt F) f2) (funext fun a => ?_)
  match a with
  | ⟨0, _⟩ => exact Fin.ext (show 512 * b + 1 * (j 0).val = (512 * b + (j 0).val) % 16384 by omega)
  | ⟨1, _⟩ => exact Fin.ext (show 0 + 1 * (j 1).val = (j 1).val by omega)

/-- Block `b` of the rows kept, loaded at the block's offset. -/
theorem read_rows {t : ℕ} (h4 : ∀ y : S16384x512.Idx, (y 0).val < 512 * t → rowsM.view.read (Elt F) f4 y = xAll xb y) {b : ℕ} (hbt : b < t) (hb : b < 32)
    {off : Fin 2 → ℕ} (ho : off = ![512 * b, 0]) (h : ∀ a, off a + S512x512.size a ≤ S16384x512.size a) :
    rowsM.view.readAt (Elt F) (Rect.unit (s := S16384x512) off S512x512.size h).toLoadRect f4 = xb b := by
  subst ho
  funext j
  have hj : (j 0).val < 512 := (j 0).isLt
  refine (h4 _ (show 512 * b + 1 * (j 0).val < 512 * t by omega)).trans ?_
  show xb ((512 * b + 1 * (j 0).val) / 512) _ = xb b j
  rw [show (512 * b + 1 * (j 0).val) / 512 = b by omega]
  refine congrArg (xb b) (funext fun a => ?_)
  match a with
  | ⟨0, _⟩ => exact Fin.ext (show (512 * b + 1 * (j 0).val) % 512 = (j 0).val by omega)
  | ⟨1, _⟩ => exact Fin.ext (show 0 + 1 * (j 1).val = (j 1).val by omega)

/-- What the loop computes at grid point `t` for a block it writes is the result's block. -/
theorem computes {t b : ℕ} (h2 : arg2.view.read (Elt F) f2 = seg) (h9 : minM.view.readAt (Elt F) statRect f9 = stMin xb seg t)
    (h10 : maxM.view.readAt (Elt F) statRect f10 = stMax xb seg t)
    (h4 : ∀ y : S16384x512.Idx, (y 0).val < 512 * (t + 1) → rowsM.view.read (Elt F) f4 y = xAll xb y)
    (h1 : done (sblk seg) t ≤ b) (hlt : b < done (sblk seg) (t + 1)) : Computes c (outG xb seg) arg2 f2 f9 f10 f4 b := by
  intro off off' ho ho' h h' hb j
  have hj : (j 0).val < 512 := (j 0).isLt
  rw [read_seg seg c arg2 f2 h2 hb ho h, h9, h10, read_rows xb c f4 h4 (lt_of_lt_of_le hlt (done_le _ _)) hb ho' h']
  unfold outG
  have e : inBlk (ix2 ⟨512 * b + (j 0).val, by show _ < 16384; omega⟩ (j 1) : S16384x512.Idx) = j := by
    funext a
    match a with
    | ⟨0, _⟩ => exact Fin.ext (show (512 * b + (j 0).val) % 512 = (j 0).val by omega)
    | ⟨1, _⟩ => rfl
  rw [e]
  show _ = outB xb seg ((512 * b + (j 0).val) / 512) j
  rw [show (512 * b + (j 0).val) / 512 = b by omega]
  unfold outB
  rw [writtenAt_eq _ h1 hlt]

end

end Cert.KernelIdeal.Blocks
-- ==== Proof.Body.lean ====
module

public import proofs.«01_k».proof.Proof.State

/-!
# One grid point

The body reads block `t` and its segment numbers, folds the block's rows into the two rows of statistics, moves the two
words that remember the open segment, writes out the blocks that are complete, and at the last point waits for the
copies still in flight.
-/

@[expose] public section

set_option maxRecDepth 16384

noncomputable section

namespace Cert.KernelIdeal.Blocks

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (xb : ℕ → Vec F S512x512 .f32) (seg : Vec F S16384x1 .i32)

/-- The rows kept so far and the two rows of statistics, before grid point `t`. -/
def kept (t : ℕ) : sProp 𝕄 :=
  iprop((∃ f : Held (F := F) c rowsM, held c rowsM f ∗ ⌜∀ y : S16384x512.Idx, (y 0).val < 512 * t → rowsM.view.read (Elt F) f y = xAll xb y⌝)
    ∗ (∃ f : Held (F := F) c minM, held c minM f ∗ ⌜0 < t → minM.view.readAt (Elt F) statRect f = stMin xb seg (t - 1)⌝)
    ∗ (∃ f : Held (F := F) c maxM, held c maxM f ∗ ⌜0 < t → maxM.view.readAt (Elt F) statRect f = stMax xb seg (t - 1)⌝))

/-- A row of statistics just stored reads back. -/
theorem read_stat {M : Memref sig .tc .vmem S8x128 .f32} (f : Held (F := F) c M) (w : Vec F S1x128 .f32) :
    M.view.readAt (Elt F) statRect (M.view.writes (Elt F) f [⟨Rect.unit (s := S8x128) ![0, 0] S1x128.size inb_S8x128_S1x128_0_0, w⟩]) = w := by
  funext j
  exact View.read_writes_cons_emb _ _ _ _ _ _

/-- The rows kept after block `t` is stored. -/
theorem keep_rows {t : ℕ} (ht : t < 32) (f : Held (F := F) c rowsM) (hf : ∀ y : S16384x512.Idx, (y 0).val < 512 * t → rowsM.view.read (Elt F) f y = xAll xb y)
    (w : Vec F S512x512 .f32) (hw : w = xb t) (off : Fin 2 → ℕ) (ho : off = ![512 * t, 0]) (h : ∀ a, off a + S512x512.size a ≤ S16384x512.size a)
    (y : S16384x512.Idx) (hy : (y 0).val < 512 * (t + 1)) :
    rowsM.view.read (Elt F) (rowsM.view.writes (Elt F) f [⟨Rect.unit (s := S16384x512) off S512x512.size h, w⟩]) y = xAll xb y := by
  by_cases hlt : (y 0).val < 512 * t
  · exact (View.read_writes_cons_rows_of_not_mem rowsM.view f h w [] y ho rfl (Or.inl hlt)).trans (hf y hlt)
  · have hm : (y 0).val / 512 = t := by omega
    subst hw
    refine (View.read_writes_cons_rows_of_mem rowsM.view f h (xb t) [] y (inBlk y) ho (show (y 0).val = 512 * t + (y 0).val % 512 by omega) rfl).trans ?_
    unfold xAll
    rw [hm]

/-- The point's number as the kernel's three tests see it. -/
theorem tests {t : ℕ} (ht : t < 32) :
    (Scalar.cmpi .ne (Scalar.extui (Scalar.cmpi .eq (BitVec.ofNat 32 t) 0#32) : BitVec 32) 0#32 = 1#1 ↔ t = 0)
    ∧ (Scalar.cmpi .ne (Scalar.extui (Scalar.cmpi .sgt (BitVec.ofNat 32 t) 0#32) : BitVec 32) 0#32 = 1#1 ↔ ¬ t = 0)
    ∧ (Scalar.cmpi .ne (Scalar.extui (Scalar.cmpi .eq (BitVec.ofNat 32 t) 31#32) : BitVec 32) 0#32 = 1#1 ↔ t = 31) := by
  have h : ∀ k : Fin 32, (Scalar.cmpi .ne (Scalar.extui (Scalar.cmpi .eq (BitVec.ofNat 32 k.val) 0#32) : BitVec 32) 0#32 = 1#1 ↔ k.val = 0)
    ∧ (Scalar.cmpi .ne (Scalar.extui (Scalar.cmpi .sgt (BitVec.ofNat 32 k.val) 0#32) : BitVec 32) 0#32 = 1#1 ↔ ¬ k.val = 0)
    ∧ (Scalar.cmpi .ne (Scalar.extui (Scalar.cmpi .eq (BitVec.ofNat 32 k.val) 31#32) : BitVec 32) 0#32 = 1#1 ↔ k.val = 31) := by decide
  exact h ⟨t, ht⟩

/-- The body's two offsets at grid point `t`. -/
theorem point_offs (i : grid0.Coords) : k0_off1 i = ![512 * (i 0).val, 0] ∧ k0_off2 i = ![512 * (i 0).val, 0] := by
  have h : ∀ k : Fin 32, (Scalar.muli (BitVec.ofNat 32 k.val) 512#32).toNat = 512 * k.val := by decide
  have h' := h (i 0)
  constructor
  · unfold k0_off1; rw [← h']; rfl
  · unfold k0_off2; rw [← h']; rfl

/-- Word `k` of the scalar memory. -/
def word (f : Held (F := F) c wordsM) (k : Fin 4) : BitVec 32 := wordsM.view.read (Elt F) f (ix1 k : S4.Idx)

/-- A load of one word reads that word. -/
theorem load_word (f : Held (F := F) c wordsM) (k : Fin 4) (h : ∀ a, (![k.val] : Fin 1 → ℕ) a + S1.size a ≤ S4.size a) {h1 : 0 < S1.numel} :
    wordsM.view.readAt (Elt F) (Rect.unit (s := S4) ![k.val] S1.size h).toLoadRect f (Shape.Idx.first h1) = word c f k := by
  refine congrArg (wordsM.view.read (Elt F) f) (funext fun a => ?_)
  match a with
  | ⟨0, _⟩ =>
    have hz : ((Shape.Idx.first h1 : S1.Idx) 0).val < 1 := ((Shape.Idx.first h1 : S1.Idx) 0).isLt
    exact Fin.ext (show k.val + 1 * ((Shape.Idx.first h1 : S1.Idx) 0).val = k.val by omega)

/-- A store of one word changes that word. -/
theorem word_store (f : Held (F := F) c wordsM) (j : ℕ) (k : Fin 4) (h : ∀ a, (![j] : Fin 1 → ℕ) a + S1.size a ≤ S4.size a) (p : BitVec 32)
    (L : List (View.Piece (Elt F) S4 .i32)) :
    word c (wordsM.view.writes (Elt F) f (⟨Rect.unit (s := S4) ![j] S1.size h, fun _ => p⟩ :: L)) k
      = if k.val = j then p else word c (wordsM.view.writes (Elt F) f L) k :=
  View.read_writes_cons_cell wordsM.view f h p L (ix1 k)

/-- The scalar memory before grid point `t`: how many blocks are written, and the open segment's first row and number. -/
def words (t : ℕ) : sProp 𝕄 :=
  iprop(∃ f : Held (F := F) c wordsM, held c wordsM f
    ∗ ⌜0 < t → word c f 0 = BitVec.ofNat 32 (done (sblk seg) t) ∧ word c f 1 = openRow (sblk seg) (t - 1) ∧ word c f 2 = segMax (sblk seg (t - 1))⌝)

/-- The ring once every copy has been waited for: the result array whole, the slots and their semaphores at rest. -/
def drained : sProp 𝕄 :=
  iprop(held c outM (outG xb seg) ∗ slot c (outG xb seg) (slotM 0) (slotSem 0) none ∗ slot c (outG xb seg) (slotM 1) (slotSem 1) none
    ∗ slot c (outG xb seg) (slotM 2) (slotSem 2) none ∗ slot c (outG xb seg) (slotM 3) (slotSem 3) none)

/-- What the body holds before grid point `t`, and after the last point at `t = 32`. -/
def state (t : ℕ) : sProp 𝕄 :=
  iprop(kept c xb seg t ∗ words c seg t ∗ if t = 32 then drained c xb seg else ring c (outG xb seg) (done (sblk seg) t))

/-- The end of the body: at the last grid point, wait for the four copies still in flight. -/
def finish (n : BitVec 32) : Prog (TpuEff nD τ sig (Elt F) Λ₀ .tc) PUnit := do
  if _ : Scalar.cmpi .ne (Scalar.extui (Scalar.cmpi .eq n 31#32) : BitVec 32) 0#32 = 1#1 then do
    Prog.lift (.waitDma2 (slotSem 0) slotM0 (blockM ![0, 0] inb_S16384x512_S512x512_0_0) (Memref.isWhole_whole _).wordExact (View.wordExact_bits rfl))
    Prog.lift (.waitDma2 (slotSem 1) slotM1 (blockM ![0, 0] inb_S16384x512_S512x512_0_0) (Memref.isWhole_whole _).wordExact (View.wordExact_bits rfl))
    Prog.lift (.waitDma2 (slotSem 2) slotM2 (blockM ![0, 0] inb_S16384x512_S512x512_0_0) (Memref.isWhole_whole _).wordExact (View.wordExact_bits rfl))
    Prog.lift (.waitDma2 (slotSem 3) slotM3 (blockM ![0, 0] inb_S16384x512_S512x512_0_0) (Memref.isWhole_whole _).wordExact (View.wordExact_bits rfl))
    pure ⟨⟩
  else do
    pure ⟨⟩

/-- One more block in the result array. -/
theorem land (G : S16384x512.Idx → Elt F .f32) (b : ℕ) :
    iprop((outM.view.loc (c : Thread nD τ) ↦[rowsBelow (512 * b)]{fullShare} (G : Held (F := F) c outM)) ∗ (outM.view.loc (c : Thread nD τ) ↦[rowsOf b]{fullShare} (G : Held (F := F) c outM)))
      ⊢ (outM.view.loc (c : Thread nD τ) ↦[rowsBelow (512 * (b + 1))]{fullShare} (G : Held (F := F) c outM) : sProp 𝕄) := by
  rw [rowsBelow_split]
  exact (pointsTo_union (rowsBelow_disjoint b)).2

/-- With every block in the result array it is held whole. -/
theorem rowsBelow_all : rowsBelow (512 * 32) = Finset.univ := by
  ext i
  have h : (i 0).val < 16384 := (i 0).isLt
  simp only [rowsBelow, Finset.mem_filter, Finset.mem_univ, true_and, iff_true]
  omega

/-- The end of the body drains the ring at the last point and leaves it alone before. -/
theorem wp_finish {t : ℕ} (ht : t < 32) (K : PUnit → sProp 𝕄) :
    iprop(ring c (outG xb seg) (done (sblk seg) (t + 1)) ∗ (∃ W : Waits sig Unit, owes (c : Thread nD τ) 0 W)
      ∗ (((if t + 1 = 32 then drained c xb seg else ring c (outG xb seg) (done (sblk seg) (t + 1))) ∗ (∃ W : Waits sig Unit, owes (c : Thread nD τ) 0 W)) -∗ K ⟨⟩))
      ⊢ wp frame (wpE (defs₀ (F := F)) Variants.none (c : Thread nD τ) none) Set.univ (finish (BitVec.ofNat 32 t)) K := by
  obtain ⟨-, -, c3⟩ := tests ht
  unfold finish
  by_cases h : t = 31
  · subst h
    simp only [dif_pos (c3.2 rfl)]
    rw [if_pos trivial, done_32]
    unfold ring drained slotAt landed
    rw [show holds 32 (0 : Fin 4).val = some 28 from rfl, show holds 32 (1 : Fin 4).val = some 29 from rfl,
      show holds 32 (2 : Fin 4).val = some 30 from rfl, show holds 32 (3 : Fin 4).val = some 31 from rfl]
    have hnone : ∀ s sm, slot c (outG xb seg) s sm none = iprop((∃ f : Held (F := F) c s, held c s f) ∗ semVal ((c : Thread nD τ), SemLoc.dma sm) 0) := fun _ _ => rfl
    have hsome : ∀ s sm b, slot c (outG xb seg) s sm (some b) = iprop(∃ f : Held (F := F) c s, Transfers.Flight (countersEmb (U := Pipeline.UD sig nD τ)) (c : Thread nD τ) (.dma sm) () credit
      iprop((outM.view.loc (c : Thread nD τ) ↦[rowsOf b]{fullShare} (outG xb seg : Held (F := F) c outM)) ∗ held c s f)) := fun _ _ _ => rfl
    simp only [hnone, hsome]
    iintro ⟨⟨HL, HP, ⟨%s0, S0⟩, ⟨%s1, S1⟩, ⟨%s2, S2⟩, ⟨%s3, S3⟩⟩, ⟨%W, HO⟩, Hk⟩
    sl_exec
    sl_step
    ihave HL := (land c (outG xb seg) 28) $$ [HL S0_dst]
    · isplitl [HL]; · iexact HL
      iexact S0_dst
    ihave HL := (land c (outG xb seg) 29) $$ [HL S1_dst]
    · isplitl [HL]; · iexact HL
      iexact S1_dst
    ihave HL := (land c (outG xb seg) 30) $$ [HL S2_dst]
    · isplitl [HL]; · iexact HL
      iexact S2_dst
    ihave HL := (land c (outG xb seg) 31) $$ [HL S3_dst]
    · isplitl [HL]; · iexact HL
      iexact S3_dst
    rw [rowsBelow_all]
    iapply Hk
    isplitr [HO]
    · isplitl [HL]; · iexact HL
      isplitl [S0_src S0]
      · isplitl [S0_src]; · iexists s0; iexact S0_src
        iexact S0
      isplitl [S1_src S1]
      · isplitl [S1_src]; · iexists s1; iexact S1_src
        iexact S1
      isplitl [S2_src S2]
      · isplitl [S2_src]; · iexists s2; iexact S2_src
        iexact S2
      · isplitl [S3_src]; · iexists s3; iexact S3_src
        iexact S3
    · iexists _; iexact HO
  · simp only [dif_neg (mt c3.1 h)]
    rw [if_neg (show ¬ t + 1 = 32 by omega)]
    iintro ⟨HR, HO, Hk⟩
    sl_step
    iapply Hk
    isplitl [HR]; · iexact HR
    iexact HO

section point
variable (i : grid0.Coords) (arg1 : Memref sig .tc .vmem S512x512 .f32) (harg1 : arg1.IsWhole) (arg2 : Memref sig .tc .vmem S16384x1 .i32) (harg2 : arg2.IsWhole)
  (f1 : Held (F := F) c arg1) (f2 : Held (F := F) c arg2)

set_option maxHeartbeats 4000000 in
/-- Reading the block and folding it into the statistics. -/
theorem wp_read {t : ℕ} (hi : (i 0).val = t) (h1 : arg1.view.read (Elt F) f1 = xb t) (h2 : arg2.view.read (Elt F) f2 = seg)
    (K : (Σ' (arg0 : BitVec 32) (v0 : IVec S512x128 32) (v5 : IVec S512x1 32) (v38 : BitVec 32), IVec S512x1 32) → sProp 𝕄) :
    iprop(held c arg1 f1 ∗ held c arg2 f2 ∗ kept c xb seg t
      ∗ ((held c arg1 f1 ∗ held c arg2 f2 ∗ kept c xb seg (t + 1)) -∗ K ⟨BitVec.ofNat 32 (i 0).val, lanes, k0_pay11 (sblk seg t), segMax (sblk seg t), iota .tc S512x1 32 [0] iota_S512x1_d0_w32⟩))
      ⊢ wp frame (wpE (defs₀ (F := F)) Variants.none (c : Thread nD τ) none) Set.univ
        (k0_part3 (F := F) i arg1 harg1 arg2 harg2 outM (Memref.isWhole_whole _) rowsM (Memref.isWhole_whole _) slotM0 (Memref.isWhole_whole _) slotM1 (Memref.isWhole_whole _) slotM2 (Memref.isWhole_whole _) slotM3 (Memref.isWhole_whole _) minM (Memref.isWhole_whole _) maxM (Memref.isWhole_whole _) wordsM (Memref.isWhole_whole _) cc0_scratch8) K := by
  have ht : t < 32 := by rw [← hi]; exact (i 0).isLt
  have e1 : arg2.view.readAt (Elt F) (Rect.unit (s := S16384x1) (k0_off1 i) S512x1.size (k0_off1_inb i)).toLoadRect f2 = sblk seg t :=
    read_seg seg c arg2 f2 h2 ht (by rw [(point_offs i).1, hi]) _
  have e2 : arg1.view.readAt (Elt F) (Rect.unit (s := S512x512) ![0, 0] S512x512.size inb_S512x512_S512x512_0_0).toLoadRect f1 = xb t :=
    (View.readAt_full _ _ _).trans h1
  have e3 : ∀ x : Vec F S512x512 .f32, k0_pay13 x = x := fun x => shapeCast_id _ _
  rw [k0_part3_eq_skeleton]
  unfold k0_part3_skel
  obtain ⟨c1, c2, -⟩ := tests ht
  rw [← hi] at c1 c2
  have hfin : ∀ (f4 : Held (F := F) c rowsM) (f9 : Held (F := F) c minM) (f10 : Held (F := F) c maxM) (w9 w10 : Vec F S1x128 .f32),
      (∀ y : S16384x512.Idx, (y 0).val < 512 * t → rowsM.view.read (Elt F) f4 y = xAll xb y) → w9 = stMin xb seg t → w10 = stMax xb seg t →
      iprop(held c arg1 f1 ∗ held c arg2 f2
        ∗ held c rowsM (rowsM.view.writes (Elt F) f4 [⟨Rect.unit (s := S16384x512) (k0_off2 i) S512x512.size (k0_off2_inb i), k0_pay13 (xb t)⟩])
        ∗ held c minM (minM.view.writes (Elt F) f9 [⟨Rect.unit (s := S8x128) ![0, 0] S1x128.size inb_S8x128_S1x128_0_0, w9⟩])
        ∗ held c maxM (maxM.view.writes (Elt F) f10 [⟨Rect.unit (s := S8x128) ![0, 0] S1x128.size inb_S8x128_S1x128_0_0, w10⟩]))
      ⊢ iprop(held c arg1 f1 ∗ held c arg2 f2 ∗ kept c xb seg (t + 1)) := by
    intro f4 f9 f10 w9 w10 g4 g9 g10
    unfold kept
    iintro ⟨H1, H2, H4, H9, H10⟩
    isplitl [H1]; · iexact H1
    isplitl [H2]; · iexact H2
    isplitl [H4]
    · iexists _; isplitl [H4]; · iexact H4
      ipureintro
      exact fun y hy => keep_rows c xb ht f4 g4 _ (e3 _) _ (by rw [(point_offs i).2, hi]) _ y hy
    isplitl [H9]
    · iexists _; isplitl [H9]; · iexact H9
      ipureintro
      exact fun _ => (read_stat c f9 w9).trans g9
    · iexists _; isplitl [H10]; · iexact H10
      ipureintro
      exact fun _ => (read_stat c f10 w10).trans g10
  unfold kept at hfin
  unfold kept segMax
  iintro ⟨H1, H2, HK, Hk⟩
  icases HK with ⟨⟨%f4, H4, %g4⟩, ⟨%f9, H9, %g9⟩, ⟨%f10, H10, %g10⟩⟩
  by_cases h0 : t = 0
  · simp only [dif_pos (c1.2 (hi.trans h0)), dif_neg (mt c2.1 (not_not.mpr (hi.trans h0)))]
    sl_exec
    sl_step
    iapply Hk
    iapply (hfin f4 f9 f10 (k0_pay16 (sblk seg t) (xb t)) (k0_pay17 (sblk seg t) (xb t)) g4 (by subst h0; rfl) (by subst h0; rfl)) $$ [-]
    isplitl [H1]; · iexact H1
    isplitl [H2]; · iexact H2
    isplitl [H4]; · iexact H4
    isplitl [H9]; · iexact H9
    iexact H10
  · simp only [dif_neg (mt c1.1 (fun h => h0 (hi.symm.trans h))), dif_pos (c2.2 (fun h => h0 (hi.symm.trans h)))]
    have e9 := g9 (Nat.pos_of_ne_zero h0)
    have e10 := g10 (Nat.pos_of_ne_zero h0)
    sl_exec
    sl_step
    iapply Hk
    obtain ⟨n, hn⟩ := Nat.exists_eq_succ_of_ne_zero h0
    iapply (hfin f4 f9 f10 (k0_pay18 (sblk seg t) (xb t) (stMin xb seg (t - 1))) (k0_pay19 (sblk seg t) (xb t) (stMax xb seg (t - 1))) g4 (by subst hn; rfl) (by subst hn; rfl)) $$ [-]
    isplitl [H1]; · iexact H1
    isplitl [H2]; · iexact H2
    isplitl [H4]; · iexact H4
    isplitl [H9]; · iexact H9
    iexact H10

/-- Moving the two words that remember the open segment. -/
theorem wp_words {t : ℕ} (hi : (i 0).val = t) (s : Vec F S512x1 .i32) (f : Held (F := F) c wordsM)
    (K : (Σ' (v50 : BitVec 32) (v51 : Elt F .i32) (v52 : Elt F .i32) (v77 : BitVec 32), BitVec 1) → sProp 𝕄) :
    iprop(held c wordsM f
      ∗ ((∃ f' : Held (F := F) c wordsM, held c wordsM f' ∗ ⌜word c f' 0 = word c f 0 ∧ word c f' 1 = openWord i (segMax s) (segFirst t s) (word c f 1) (word c f 2) ∧ word c f' 2 = segMax s⌝)
        -∗ K ⟨segFirst t s, word c f 1, word c f 2, floorWord (rowsWord i (segMax s) (segFirst t s) (word c f 1) (word c f 2)), Scalar.cmpi .eq (BitVec.ofNat 32 (i 0).val) 0#32⟩))
      ⊢ wp frame (wpE (defs₀ (F := F)) Variants.none (c : Thread nD τ) none) Set.univ
        (k0_part4 (F := F) i arg1 harg1 arg2 harg2 outM (Memref.isWhole_whole _) rowsM (Memref.isWhole_whole _) slotM0 (Memref.isWhole_whole _) slotM1 (Memref.isWhole_whole _) slotM2 (Memref.isWhole_whole _) slotM3 (Memref.isWhole_whole _) minM (Memref.isWhole_whole _) maxM (Memref.isWhole_whole _) wordsM (Memref.isWhole_whole _) cc0_scratch8
          (BitVec.ofNat 32 (i 0).val) (k0_pay11 s) (segMax s) (iota .tc S512x1 32 [0] iota_S512x1_d0_w32)) K := by
  subst hi
  rw [k0_part4_eq_skeleton]
  unfold k0_part4_skel
  iintro ⟨H, Hk⟩
  sl_exec
  sl_step
  have r1 : wp_words.sl.r c f = word c f 1 := load_word c f 1 _
  have r2 : wp_words.sl.r_1 c f = word c f 2 := load_word c f 2 _
  have r3 : wp_words.sl.v56 c i s f = openWord i (segMax s) (segFirst (i 0).val s) (word c f 1) (word c f 2) := by
    rw [← r1, ← r2]; rfl
  have r4 : wp_words.sl.v77 c i s f = floorWord (rowsWord i (segMax s) (segFirst (i 0).val s) (word c f 1) (word c f 2)) := by
    rw [← r1, ← r2]; rfl
  have r5 : wp_words.sl.v50 i s = segFirst (i 0).val s := rfl
  have r6 : wp_words.sl.v78 i = Scalar.cmpi .eq (BitVec.ofNat 32 (i 0).val) 0#32 := rfl
  rw [r1, r2, r3, r4, r5, r6]
  iapply Hk
  iexists _
  isplitl [H]; · iexact H
  ipureintro
  refine ⟨?_, ?_, ?_⟩
  · rw [word_store, word_store]; rfl
  · rw [word_store, word_store]; rfl
  · rw [word_store]; rfl

set_option maxHeartbeats 4000000 in
/-- The body at grid point `t`. -/
theorem wp_point {t : ℕ} (hi : (i 0).val = t) (h1 : arg1.view.read (Elt F) f1 = xb t) (h2 : arg2.view.read (Elt F) f2 = seg) (K : PUnit → sProp 𝕄) :
    iprop(held c arg1 f1 ∗ held c arg2 f2 ∗ state c xb seg t ∗ (∃ W : Waits sig Unit, owes (c : Thread nD τ) 0 W)
      ∗ ((held c arg1 f1 ∗ held c arg2 f2 ∗ state c xb seg (t + 1) ∗ (∃ W : Waits sig Unit, owes (c : Thread nD τ) 0 W)) -∗ K ⟨⟩))
      ⊢ wp frame (wpE (defs₀ (F := F)) Variants.none (c : Thread nD τ) none) Set.univ
        (cc0__body (F := F) i arg1 harg1 arg2 harg2 outM (Memref.isWhole_whole _) rowsM (Memref.isWhole_whole _) slotM0 (Memref.isWhole_whole _) slotM1 (Memref.isWhole_whole _) slotM2 (Memref.isWhole_whole _) slotM3 (Memref.isWhole_whole _) minM (Memref.isWhole_whole _) maxM (Memref.isWhole_whole _) wordsM (Memref.isWhole_whole _) cc0_scratch8) K := by
  have ht : t < 32 := by rw [← hi]; exact (i 0).isLt
  rw [cc0__body_eq_skeleton]
  unfold cc0__body_skel state words
  rw [if_neg (show ¬ t = 32 by omega)]
  iintro ⟨H1, H2, ⟨HK, ⟨%f, Hf, %hf⟩, HR⟩, HO, Hk⟩
  rw [wp_bind]
  iapply (wp_read c xb seg i arg1 harg1 arg2 harg2 f1 f2 hi h1 h2) $$ [-]
  isplitl [H1]; · iexact H1
  isplitl [H2]; · iexact H2
  isplitl [HK]; · iexact HK
  iintro ⟨H1, H2, HK⟩
  rw [wp_bind]
  iapply (wp_words c i arg1 harg1 arg2 harg2 hi (sblk seg t) f) $$ [-]
  isplitl [Hf]; · iexact Hf
  iintro ⟨%f', Hf, %hf'⟩
  obtain ⟨hf0, hf1, hf2⟩ := hf'
  have hS := span (sblk seg) hi (word c f' 0) (word c f 1) (word c f 2) (by rw [hf0]; exact hf)
  have hchk := hS.chk
  dsimp only
  sl_exec
  have r0 : wp_point.sl.r c f' = word c f' 0 := load_word c f' 0 _
  rw [r0]
  unfold kept
  icases HK with ⟨⟨%f4, H4, %g4⟩, ⟨%f9, H9, %g9⟩, ⟨%f10, H10, %g10⟩⟩
  sl_exec
  have hd : done (sblk seg) t + (k0_t1_loop i (segMax (sblk seg t)) (segFirst t (sblk seg t)) (word c f 1) (word c f 2) (word c f' 0)).trips = done (sblk seg) (t + 1) := by
    rw [hS.trips]; have := hS.le; omega
  sl_for (fun k _ => looping c (outG xb seg) arg2 f2 f9 f10 f4 (done (sblk seg) t + k)) $$ [H2 H4 H9 H10 HR HO]
  · intro k acc
    exact wp_trip c (outG xb seg) arg2 f2 f9 f10 f4 i arg1 harg1 harg2 _ _ _ _ _ hS hchk
      (fun b hb hb' => computes xb seg c arg2 f2 f9 f10 f4 h2 (g9 (Nat.succ_pos t)) (g10 (Nat.succ_pos t)) g4 hb hb') k
  · unfold looping
    isplitl [H2]; · iexact H2
    isplitl [H9]; · iexact H9
    isplitl [H10]; · iexact H10
    isplitl [H4]; · iexact H4
    isplitl [HR]; · iexact HR
    iexact HO
  iintro %acc HL
  ihave HL := (Entails.of_eq (congrArg (looping c (outG xb seg) arg2 f2 f9 f10 f4) hd)) $$ HL
  unfold looping
  icases HL with ⟨H2, H9, H10, H4, HR, HO⟩
  sl_exec
  iapply (wp_finish c xb seg (t := (i 0).val) (by rw [hi]; exact ht)) $$ [-]
  rw [hi]
  isplitl [HR]; · iexact HR
  isplitl [HO]; · iexact HO
  iintro ⟨HR, HO⟩
  iapply Hk
  isplitl [H1]; · iexact H1
  isplitl [H2]; · iexact H2
  isplitr [HO]
  · isplitl [H4 H9 H10]
    · isplitl [H4]
      · iexists f4; isplitl [H4]; · iexact H4
        ipureintro; exact g4
      isplitl [H9]
      · iexists f9; isplitl [H9]; · iexact H9
        ipureintro; exact g9
      · iexists f10; isplitl [H10]; · iexact H10
        ipureintro; exact g10
    isplitl [Hf]
    · iexists _; isplitl [Hf]; · iexact Hf
      ipureintro
      intro _
      refine ⟨?_, ?_, ?_⟩
      · rw [word_store]; exact hS.high
      · rw [word_store]
        refine hf1.trans (openWord_eq (sblk seg) hi _ _ fun h => (hf h).2)
      · rw [word_store]; exact hf2
    · iexact HR
  · iexact HO

end point

end Cert.KernelIdeal.Blocks
-- ==== Proof.Run.lean ====
module

public import proofs.«01_k».proof.Proof.Body

/-!
# The run

The grid runs the body at points `0 … 31` between the scoped buffers as the launch hands them over and the result
array at `outG`; both arguments are unchanged and every semaphore ends at zero.
-/

@[expose] public section

set_option maxRecDepth 16384

noncomputable section

namespace Cert.KernelIdeal.Blocks

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Block `b` of the first argument. -/
def argX (c : Dev nD) (b : ℕ) : Vec F S512x512 .f32 :=
  fun j => m ((c : Thread nD τ).loc main_arg0) (ix2 ⟨(512 * b + (j 0).val) % 16384, Nat.mod_lt _ (by decide)⟩ (j 1) : S16384x512.Idx)

/-- The segment numbers as the grid finds them. -/
def argSeg (c : Dev nD) : Vec F S16384x1 .i32 := V m c main_v0

/-- The result array's contents after the run. -/
abbrev result (c : Dev nD) : S16384x512.Idx → Elt F .f32 := outG (argX m c) (argSeg m c)

/-- The operations before the grid, at this proof's resources. -/
theorem prefix_main (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The four slots' semaphores. -/
abbrev osem0 : Fin 4 → SemLoc sig := fun j => (![SemLoc.dma 3, SemLoc.dma 4, SemLoc.dma 5, SemLoc.dma 6] : Fin 4 → SemLoc sig) j

/-- The slots' semaphores are distinct, and none is the pipeline's. -/
theorem ownSemFacts0 : Pipeline.OwnSemFacts spec0 osem0 := by decide

/-- The slots' semaphores at zero, one by one. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 3) 0 ∗ semVal ((c : Thread nD τ), SemLoc.dma 4) 0
          ∗ semVal ((c : Thread nD τ), SemLoc.dma 5) 0 ∗ semVal ((c : Thread nD τ), SemLoc.dma 6) 0) := by
  rw [Pipeline.ownSems0_eq_of_list c osem0 [0, 1, 2, 3] (by decide) (by decide)]; rfl

/-- The body reads no argument array itself, and writes one: the result. -/
def H0 : Finset (Ref sig .tc) := ∅
/-- The one array the body writes. -/
def R0 : Finset (Ref sig .tc) := {main_v1}
/-- What the body reads lies outside the windows. -/
theorem H0_sub : H0 ⊆ Pipeline.restRefs sig spec0 := by decide
/-- So does what it writes. -/
theorem R0_sub : R0 ⊆ Pipeline.restRefs sig spec0 \ H0 := by decide

/-- The buffers after the run: the result array at its contents. -/
def after (c : Dev nD) : (b : Ref sig .tc) → Buf (Elt F) ((c : Thread nD τ).loc b) := Function.update (V m c) main_v1 (result m c)

/-- The result array after the run. -/
theorem after_result (c : Dev nD) : after m c main_v1 = result m c := Function.update_self _ _ _

/-- The proof data: both windows are left as found, and `state` goes from point to point. -/
def dats (_ : Fin 1) (c : Dev nD) : Dat τ (Elt F) Unit ℕ (Pipeline.UD sig nD τ) ℕ cfg0 c where
  A w := V m c (Pipeline.arrRef spec0 w)
  after w t := match w with
    | 0 => iblk m c 0 t
    | 1 => iblk m c 1 t
  Φ t := iprop(state c (argX m c) (argSeg m c) t.val ∗ (∃ r, prngReg c r))
  q _ := fullShare
  owed _ := 0

/-- What the windows' arrays hold. -/
theorem A_eq (c : Dev nD) (w : Fin cfg0.W) : (dats m 0 c).A w = V m c (Pipeline.arrRef spec0 w) := by
  dsimp only [dats]

/-- The first window's block is left as it was fetched. -/
theorem after_x (c : Dev nD) (t : Fin cfg0.N) : (dats m 0 c).after 0 t = iblk m c 0 t := by dsimp only [dats]
/-- So is the second window's. -/
theorem after_seg (c : Dev nD) (t : Fin cfg0.N) : (dats m 0 c).after 1 t = iblk m c 1 t := by dsimp only [dats]

/-- The first window holds its block. -/
theorem before_x (c : Dev nD) (t : Fin cfg0.N) (d) : (dats m 0 c).before 0 t d = iblk m c 0 t :=
  ((dats m 0 c).before_in_eq_fetched 0 rfl (fun _ => rfl) (fun _ _ _ => rfl) (fun t => by rw [after_x]; unfold Dat.blockOf iblk; rw [A_eq]; try rfl) t d).trans
    (by unfold Dat.fetched Dat.blockOf iblk; rw [A_eq]; try rfl)

/-- The second window holds the whole column. -/
theorem before_seg (c : Dev nD) (t : Fin cfg0.N) (d) : (dats m 0 c).before 1 t d = iblk m c 1 t :=
  ((dats m 0 c).before_in_eq_fetched 1 rfl (fun _ => rfl) (fun _ _ _ => rfl) (fun t => by rw [after_seg]; unfold Dat.blockOf iblk; rw [A_eq]; try rfl) t d).trans
    (by unfold Dat.fetched Dat.blockOf iblk; rw [A_eq]; try rfl)

/-- The grid point's number. -/
theorem coords_val : ∀ t : Fin cfg0.N, ((grid0.coords t) 0).val = t.val := by decide

/-- The windows' block numbers. -/
theorem index_x : ∀ t : Fin cfg0.N, win0_0.index t 0 = t.val ∧ win0_0.index t 1 = 0 := by decide +kernel
/-- The second window never moves. -/
theorem index_seg : ∀ t : Fin cfg0.N, win0_1.index t 0 = 0 ∧ win0_1.index t 1 = 0 := by decide +kernel

/-- The first window's block is the argument's. -/
theorem iblk_x (c : Dev nD) (t : Fin cfg0.N) : (iblk m c 0 t : Vec F S512x512 .f32) = argX m c t.val := by
  have ht : t.val < 32 := t.isLt
  funext j
  have hj : (j 0).val < 512 := (j 0).isLt
  show V m c main_arg0 (((cfg0.win 0).blk t).view.emb j) = argX m c t.val j
  rw [V_main_arg0]
  unfold argX
  congr 1
  funext a
  apply Fin.ext
  match a with
  | ⟨0, _⟩ =>
    show win0_0.index t 0 * 512 + 1 * (j 0).val = (512 * t.val + (j 0).val) % 16384
    rw [(index_x t).1, Nat.mod_eq_of_lt (by omega)]; omega
  | ⟨1, _⟩ => show win0_0.index t 1 * 512 + 1 * (j 1).val = (j 1).val; rw [(index_x t).2]; omega

/-- The second window's block is the whole column. -/
theorem iblk_seg (c : Dev nD) (t : Fin cfg0.N) : (iblk m c 1 t : Vec F S16384x1 .i32) = argSeg m c := by
  funext j
  show V m c main_v0 (((cfg0.win 1).blk t).view.emb j) = argSeg m c j
  unfold argSeg
  congr 1
  funext a
  apply Fin.ext
  match a with
  | ⟨0, _⟩ => show win0_1.index t 0 * 16384 + 1 * (j 0).val = (j 0).val; rw [(index_seg t).1]; omega
  | ⟨1, _⟩ => show win0_1.index t 1 * 1 + 1 * (j 1).val = (j 1).val; rw [(index_seg t).2]; omega

/-- The first window's staging buffer. -/
abbrev ms0_0 (t : Fin cfg0.N) : Memref sig .tc .vmem S512x512 .f32 := win0_0.stage (cfg0.slots t 0)
/-- The second window's staging buffer. -/
abbrev ms0_1 (t : Fin cfg0.N) : Memref sig .tc .vmem S16384x1 .i32 := win0_1.stage (cfg0.slots t 1)

/-- What the body starts from at a grid point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))
/-- What it leaves. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

/-- The body at grid point `t`, between the windows as fetched and the state before and after. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.castSucc = iprop(state c (argX m c) (argSeg m c) t.val ∗ (∃ r, prngReg c r)) from rfl,
    show (dats m 0 c).Φ t.succ = iprop(state c (argX m c) (argSeg m c) (t.val + 1) ∗ (∃ r, prngReg c r)) from rfl]
  simp only [before_x, before_seg, after_x, after_seg]
  rw [iblk_x, iblk_seg]
  unfold Dat.owesAt Pipeline.owesWithin owns
  rw [show (dats m 0 c).owed t.castSucc = 0 from rfl, show (dats m 0 c).owed t.succ = 0 from rfl]
  rw [show (ms0_0 t).view.set = Finset.univ from (hstage0_0 ((cfg0.slots t 0).cast nbuf0_0)).set_eq_univ,
    show (ms0_1 t).view.set = Finset.univ from (hstage0_1 ((cfg0.slots t 1).cast nbuf0_1)).set_eq_univ]
  iintro ⟨⟨HS, Hg⟩, ⟨%W, -, HW⟩, ⟨%d0, %f0, %h0, H0⟩, ⟨%d1, %f1, %h1, H1⟩⟩
  iapply (wp_point c (argX m c) (argSeg m c) (grid0.coords t) (ms0_0 t) (hstage0_0 ((cfg0.slots t 0).cast nbuf0_0)) (ms0_1 t) (hstage0_1 ((cfg0.slots t 1).cast nbuf0_1))
    f0 f1 (coords_val t) h0 h1) $$ [-]
  isplitl [H0]; · iexact H0
  isplitl [H1]; · iexact H1
  isplitl [HS]; · iexact HS
  isplitl [HW]; · iexists W; iexact HW
  iintro ⟨H0, H1, HS, ⟨%W', HW'⟩⟩
  isplitl [HS Hg]
  · isplitl [HS]; · iexact HS
    iexact Hg
  isplitl [HW']
  · iexists W'; isplitr; · ipureintro; exact fun _ _ => Or.inl trivial
    iexact HW'
  isplitl [H0]
  · iexists f0; isplitr; · ipureintro; exact h0
    iexact H0
  · iexists f1; isplitr; · ipureintro; exact h1
    iexact H1

/-- The table's row for a grid point is the kernel's body. -/
theorem defs₀_row (t : Fin cfg0.N) :
    defs₀ (F := F) .tc cfg0.body (cfg0.bodyArgs t (cfg0.slots t)) = bodyAt0 t := by
  unfold defs₀; rw [Defs.onTc_tc]

/-- The body does at each grid point what the pipeline asks of it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- No rows lie below the first block. -/
theorem rowsBelow_zero : rowsBelow (512 * (0 - 4)) = ∅ := by
  unfold rowsBelow; ext i; simp

/-- All rows lie from the first block on. -/
theorem rowsFrom_zero : rowsFrom (512 * 0) = Finset.univ := by
  unfold rowsFrom; ext i; simp

/-- What the launch hands over is the state before the first point. -/
theorem enter (c : Dev nD) : Pipeline.ΦDRG osem0 spec0 H0 R0 (V m) (V m) c ⊢ (dats m 0 c).Φ 0 := by
  rw [Pipeline.ΦDRG_eq, scopedRest0_eq, ownSems00_eq, show H0 = ∅ from rfl, bigSep_empty, show R0 = {main_v1} from rfl, Pipeline.routed_singleton,
    show (dats m 0 c).Φ 0 = iprop(state c (argX m c) (argSeg m c) 0 ∗ (∃ r, prngReg c r)) from rfl]
  have hs : ∀ k : Fin 4, iprop((∃ f : Held (F := F) c (slotM k), held c (slotM k) f) ∗ semVal ((c : Thread nD τ), SemLoc.dma (slotSem k)) 0)
      ⊢ slotAt c (outG (argX m c) (argSeg m c)) 0 k := fun k => by
    unfold slotAt; rw [show holds 0 k.val = none from if_pos (Nat.zero_le _)]; exact .rfl
  unfold state kept words ring landed pending
  rw [if_neg (by decide), show done (sblk (argSeg m c)) 0 = 0 from rfl, rowsBelow_zero, rowsFrom_zero, pointsTo_empty]
  iintro ⟨⟨⟨%s0, H0⟩, ⟨%s1, H1⟩, ⟨%s2, H2⟩, ⟨%s3, H3⟩, ⟨%s4, H4⟩, ⟨%s5, H5⟩, ⟨%s6, H6⟩, ⟨%s7, H7⟩⟩, Hg, ⟨Q0, Q1, Q2, Q3⟩, HE, HR⟩
  isplitr [Hg]
  · isplitl [H0 H5 H6]
    · isplitl [H0]
      · iexists s0; isplitl [H0]; · iexact H0
        ipureintro; exact fun y h => absurd h (Nat.not_lt_zero _)
      isplitl [H5]
      · iexists s5; isplitl [H5]; · iexact H5
        ipureintro; exact fun h => absurd h (Nat.not_lt_zero _)
      · iexists s6; isplitl [H6]; · iexact H6
        ipureintro; exact fun h => absurd h (Nat.not_lt_zero _)
    isplitl [H7]
    · iexists s7; isplitl [H7]; · iexact H7
      ipureintro; exact fun h => absurd h (Nat.not_lt_zero _)
    isplitl [HE]; · iexact HE
    isplitl [HR]; · iexists _; iexact HR
    isplitl [H1 Q0]
    · iapply (hs 0); isplitl [H1]; · iexists s1; iexact H1
      iexact Q0
    isplitl [H2 Q1]
    · iapply (hs 1); isplitl [H2]; · iexists s2; iexact H2
      iexact Q1
    isplitl [H3 Q2]
    · iapply (hs 2); isplitl [H3]; · iexists s3; iexact H3
      iexact Q2
    · iapply (hs 3); isplitl [H4]; · iexists s4; iexact H4
      iexact Q3
  · iexact Hg

/-- A slot at rest. -/
theorem slot_none (c : Dev nD) (G : S16384x512.Idx → Elt F .f32) (s : Memref sig .tc .vmem S512x512 .f32) (sm : DmaSem sig) :
    slot c G s sm none = iprop((∃ f : Held (F := F) c s, held c s f) ∗ semVal ((c : Thread nD τ), SemLoc.dma sm) 0) := rfl

/-- The state after the last point is what the launch wants back, the result array at its contents. -/
theorem leave (c : Dev nD) : (dats m 0 c).Φ (Fin.last cfg0.N) ⊢ Pipeline.ΦDRG osem0 spec0 H0 R0 (V m) (after m) c := by
  rw [Pipeline.ΦDRG_eq, scopedRest0_eq, ownSems00_eq, show H0 = ∅ from rfl, bigSep_empty, show R0 = {main_v1} from rfl, Pipeline.routed_singleton,
    after_result, show (dats m 0 c).Φ (Fin.last cfg0.N) = iprop(state c (argX m c) (argSeg m c) 32 ∗ (∃ r, prngReg c r)) from rfl]
  unfold state kept words drained
  rw [if_pos rfl, slot_none, slot_none, slot_none, slot_none]
  iintro ⟨⟨⟨⟨%s0, H0, -⟩, ⟨%s5, H5, -⟩, ⟨%s6, H6, -⟩⟩, ⟨%s7, H7, -⟩, HR, ⟨⟨%s1, H1⟩, Q0⟩, ⟨⟨%s2, H2⟩, Q1⟩, ⟨⟨%s3, H3⟩, Q2⟩, ⟨⟨%s4, H4⟩, Q3⟩⟩, Hg⟩
  isplitl [H0 H1 H2 H3 H4 H5 H6 H7]
  · isplitl [H0]; · iexists s0; iexact H0
    isplitl [H1]; · iexists s1; iexact H1
    isplitl [H2]; · iexists s2; iexact H2
    isplitl [H3]; · iexists s3; iexact H3
    isplitl [H4]; · iexists s4; iexact H4
    isplitl [H5]; · iexists s5; iexact H5
    isplitl [H6]; · iexists s6; iexact H6
    iexists s7; iexact H7
  isplitl [Hg]; · iexact Hg
  isplitl [Q0 Q1 Q2 Q3]
  · isplitl [Q0]; · iexact Q0
    isplitl [Q1]; · iexact Q1
    isplitl [Q2]; · iexact Q2
    iexact Q3
  isplitr [HR]
  · iempintro
  · iexact HR

set_option backward.isDefEq.respectTransparency.types false in
/-- The launch, at any float values. -/
theorem launched : θ_run defs (onTc (τ := τ) (main (F := F))) ⟨m, fun _ => 0, ρ⟩
    (fun r => Pipeline.FramePostRG cfgs (dats m) 0 R0 (V m) (after m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := prefix_main m Variants.none) (hA := A_eq m) (G := after m)
    (hin := enter m) (hout := leave m)

/-- The kernel's run, at any float values: the result array at its contents, both arguments unchanged, every
    semaphore at zero. -/
theorem run : θ_run defs (onTc (τ := τ) (main (F := F))) ⟨m, fun _ => 0, ρ⟩ (fun r => (∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r ⟨⟨h, hv⟩, hs⟩ => ⟨fun c => ⟨(hv c main_v1 (by decide)).trans (after_result m c),
      ((h c).1 0).trans (((dats m 0 c).arrAt_in 0 rfl _).trans ((A_eq m c 0).trans (V_main_arg0 m c))),
      ((h c).2 main_arg1 (Finset.mem_sdiff.mpr ⟨Pipeline.mem_restRefs_of main_arg1 (by decide) (by decide), by decide⟩)).trans (V_main_arg1 m c)⟩, hs⟩)
    (launched m ρ)

end Cert.KernelIdeal.Blocks
-- ==== Proof.Sorted.lean ====
module

public import proofs.«01_k».proof.Proof.State

/-!
# Sorted segment numbers

Where the segment numbers are sorted, a block is written out only once every row of every segment it meets has been read.
-/

@[expose] public section

set_option maxRecDepth 16384

noncomputable section

namespace Cert.KernelIdeal.Blocks

open Cert.KernelIdeal Cert.KernelIdeal.Gen
open Idealize.ShloMosaic Idealize.ShloMosaic.TcCoe

variable {F : FTy → Type} [FloatOps F]
variable (seg : Vec F S16384x1 .i32)

/-- Row `j` of block `b`, counted over the whole array. -/
def row (b : ℕ) (j : Fin 512) : Fin 16384 := ⟨(512 * b + j.val) % 16384, Nat.mod_lt _ (by decide)⟩

/-- A row is the row of its block at its remainder. -/
theorem row_split (r : Fin 16384) : row (r.val / 512) ⟨r.val % 512, Nat.mod_lt _ (by decide)⟩ = r :=
  Fin.ext (show (512 * (r.val / 512) + r.val % 512) % 16384 = r.val by omega)

/-- The row's position, in a block of the array. -/
theorem row_val {b : ℕ} (hb : b < 32) (j : Fin 512) : (row b j).val = 512 * b + j.val :=
  show (512 * b + j.val) % 16384 = _ by omega

/-- The last row of block `b`. -/
abbrev lastRow (b : ℕ) : Fin 16384 := row b 511

/-- A row's segment number. -/
def num (r : Fin 16384) : BitVec 32 := seg (ix2 r 0)

/-- A block's segment number is that of the row it stands for. -/
theorem sblk_apply (b : ℕ) (i : S512x1.Idx) : sblk seg b i = num seg (row b (i 0)) := by
  have h : (i 1).val < 1 := (i 1).isLt
  exact congrArg (fun k : Fin 1 => seg (ix2 (row b (i 0)) k)) (Fin.ext (show (i 1).val = 0 by omega))

variable (hs : ∀ r r' : Fin 16384, r.val ≤ r'.val → (num seg r).toInt ≤ (num seg r').toInt)
include hs

/-- A row between two rows of one segment is of that segment. -/
theorem num_between {r q r' : Fin 16384} (h1 : r.val ≤ q.val) (h2 : q.val ≤ r'.val) (e : num seg r' = num seg r) : num seg r = num seg q :=
  BitVec.eq_of_toInt_eq (le_antisymm (hs r q h1) (e ▸ hs q r' h2))

/-- A block's greatest segment number is its last row's. -/
theorem segMax_last {n : ℕ} (hn : n < 32) : segMax (sblk seg n) = num seg (lastRow n) := by
  obtain ⟨⟨i, hi⟩, hmax⟩ := segMax_spec (sblk seg n)
  refine BitVec.eq_of_toInt_eq (le_antisymm ?_ ?_)
  · rw [← hi, sblk_apply]
    refine hs _ _ ?_
    have hi : (i 0).val < 512 := (i 0).isLt
    refine (row_val hn (i 0)).le.trans (le_trans ?_ (row_val hn 511).ge)
    show 512 * n + (i 0).val ≤ 512 * n + 511
    omega
  · have := hmax (ix2 (511 : Fin 512) (0 : Fin 1))
    rwa [sblk_apply] at this

/-- No row of block `n` before the first at which its greatest segment number stands is of that segment. -/
theorem before_segFirst {n : ℕ} (hn : n < 32) (r : Fin 16384) (h1 : 512 * n ≤ r.val) (h2 : r.val < (segFirst n (sblk seg n)).toNat) :
    num seg r ≠ segMax (sblk seg n) := by
  intro e
  obtain ⟨i, -, hf, hmin⟩ := segFirst_spec hn (sblk seg n)
  have hi : (i 0).val < 512 := (i 0).isLt
  rw [hf, BitVec.toNat_ofNat] at h2
  have hr : r.val - 512 * n < 512 := by omega
  have hrow : row n ⟨r.val - 512 * n, hr⟩ = r := Fin.ext (by rw [row_val hn]; show 512 * n + (r.val - 512 * n) = r.val; omega)
  have := hmin (ix2 (⟨r.val - 512 * n, hr⟩ : Fin 512) (0 : Fin 1)) (by rw [sblk_apply, ← e]; exact congrArg (num seg) hrow)
  have : (i 0).val ≤ r.val - 512 * n := this
  omega

/-- No row before the open row is of the open segment. -/
theorem before_openRow : ∀ {n : ℕ}, n < 32 → ∀ r : Fin 16384, r.val < (openRow (sblk seg) n).toNat → num seg r ≠ segMax (sblk seg n)
  | 0, hn, r, h => before_segFirst seg hs hn r (by omega) h
  | n + 1, hn, r, h => by
    unfold openRow at h
    split at h
    · next e => rw [e]; exact before_openRow (by omega) r h
    · next e =>
      rcases Nat.lt_or_ge r.val (512 * (n + 1)) with hlt | hge
      · intro e'
        refine e ?_
        rw [segMax_last seg hs hn] at e' ⊢
        rw [segMax_last seg hs (show n < 32 by omega), ← e']
        refine num_between seg hs ?_ ?_ e'.symm
        · rw [row_val (by omega)]; show r.val ≤ 512 * n + 511; omega
        · rw [row_val (by omega), row_val hn]; show 512 * n + 511 ≤ 512 * (n + 1) + 511; omega
      · exact before_segFirst seg hs hn r hge h

/-- When row `r`'s block is written out, every row of `r`'s segment has been read. -/
theorem complete (r r' : Fin 16384) (e : num seg r' = num seg r) : r'.val / 512 ≤ writtenAt (sblk seg) (r.val / 512) := by
  have hr := r.isLt
  have hr' := r'.isLt
  obtain ⟨ht, hlt⟩ := writtenAt_spec (sblk seg) (b := r.val / 512) (by omega)
  generalize writtenAt (sblk seg) (r.val / 512) = t at ht hlt
  by_contra hgt
  rw [done_succ] at hlt
  rw [if_neg (by omega)] at hlt
  have ho := openRow_lt (sblk seg) (n := t) ht
  have hbefore : r.val < (openRow (sblk seg) t).toNat := by omega
  refine before_openRow seg hs ht r hbefore ?_
  rw [segMax_last seg hs ht]
  refine num_between seg hs ?_ ?_ e
  · rw [row_val ht]; show r.val ≤ 512 * t + 511; omega
  · rw [row_val ht]; show 512 * t + 511 ≤ r'.val; omega

end Cert.KernelIdeal.Blocks
-- ==== Proof.Stats.lean ====
module

public import proofs.«01_k».proof.Proof.State
public import Idealize.ShloMosaic.Lib.Pointwise

/-!
# The running statistics over the extended reals

Stated by what lies below the minimum and above the maximum: a value is at most a segment's running minimum exactly when
it is at most every element, seen so far, of the rows that carry the segment's number.
-/

@[expose] public section

set_option maxRecDepth 16384

noncomputable section

namespace Cert.KernelIdeal.Blocks

open Cert.KernelIdeal Cert.KernelIdeal.Gen
open Idealize.ShloMosaic Idealize.ShloMosaic.TcCoe

/-- The minimum's starting word is the top element. -/
theorem ofBits_inf : (FloatOps.ofBits .f32 0x7F800000#32 : Ideal .f32) = (⊤ : EReal) := by
  simp [Ideal.ofBits, Ideal.ieee]

/-- The maximum's starting word is the bottom element. -/
theorem ofBits_neg_inf : (FloatOps.ofBits .f32 0xFF800000#32 : Ideal .f32) = (⊥ : EReal) := by
  simp [Ideal.ofBits, Ideal.ieee]

/-- The padding of the widths is a positive real. -/
theorem ofBits_eps : ∃ e : ℝ, 0 < e ∧ (FloatOps.ofBits .f32 0x358637BD#32 : Ideal .f32) = ((e : ℝ) : EReal) := by
  refine ⟨_, ?_, by simp [Ideal.ofBits, Ideal.ieee, -EReal.coe_mul]; rfl⟩
  norm_num

/-- A masked value: one choice of two. -/
theorem select_eq {α : Type} (a b : BitVec 32) (x y : α) : Scalar.select (IntOp.cmpi .eq a b) x y = if a = b then x else y := by
  split
  · next h => rw [h, cmp_self]; rfl
  · next h => rw [cmp_other h]; rfl

/-- What lies below a masked minimum of minima. -/
theorem le_masked {ι κ : Type} [Fintype ι] [Fintype κ] (a : ι → BitVec 32) (w : BitVec 32) (x : ι → κ → EReal) (v : EReal) :
    v ≤ Finset.univ.fold min (⊤ : EReal) (fun i => Scalar.select (IntOp.cmpi .eq (a i) w) (Finset.univ.fold min (⊤ : EReal) fun k => x i k) ⊤)
      ↔ ∀ i k, a i = w → v ≤ x i k := by
  simp only [Finset.le_fold_min, select_eq]
  constructor
  · rintro ⟨-, h⟩ i k e
    have := h i (Finset.mem_univ _)
    rw [if_pos e, Finset.le_fold_min] at this
    exact this.2 k (Finset.mem_univ _)
  · intro h
    refine ⟨le_top, fun i _ => ?_⟩
    split
    · next e => exact (Finset.le_fold_min v).2 ⟨le_top, fun k _ => h i k e⟩
    · exact le_top

/-- What lies above a masked maximum of maxima. -/
theorem masked_le {ι κ : Type} [Fintype ι] [Fintype κ] (a : ι → BitVec 32) (w : BitVec 32) (x : ι → κ → EReal) (v : EReal) :
    Finset.univ.fold max (⊥ : EReal) (fun i => Scalar.select (IntOp.cmpi .eq (a i) w) (Finset.univ.fold max (⊥ : EReal) fun k => x i k) ⊥) ≤ v
      ↔ ∀ i k, a i = w → x i k ≤ v := by
  simp only [Finset.fold_max_le, select_eq]
  constructor
  · rintro ⟨-, h⟩ i k e
    have := h i (Finset.mem_univ _)
    rw [if_pos e, Finset.fold_max_le] at this
    exact this.2 k (Finset.mem_univ _)
  · intro h
    refine ⟨bot_le, fun i _ => ?_⟩
    split
    · next e => exact (Finset.fold_max_le v).2 ⟨bot_le, fun k _ => h i k e⟩
    · exact bot_le

/-- What lies below a block's minimum over the rows with number `s`. -/
theorem le_pay14 (seg : Vec Ideal S512x1 .i32) (x : Vec Ideal S512x512 .f32) (s : Fin 128) (v : EReal) :
    v ≤ k0_pay14 seg x (ix2 0 s) ↔ ∀ r k : Fin 512, seg (ix2 r 0) = BitVec.ofNat 32 s.val → v ≤ x (ix2 r k) := by
  have e : k0_pay14 seg x (ix2 0 s) = Finset.univ.fold min (⊤ : EReal) (fun r : Fin 512 =>
      Scalar.select (IntOp.cmpi .eq (seg (ix2 r 0)) (BitVec.ofNat 32 s.val)) (Finset.univ.fold min (⊤ : EReal) fun k : Fin 512 => x (ix2 r k)) ⊤) := by
    unfold k0_pay14 k0_pay12 k0_pay11
    rw [← ofBits_inf]
    pointwise
  rw [e]
  exact le_masked (fun r : Fin 512 => seg (ix2 r 0)) _ (fun r k : Fin 512 => x (ix2 r k)) v

/-- What lies above a block's maximum over the rows with number `s`. -/
theorem pay15_le (seg : Vec Ideal S512x1 .i32) (x : Vec Ideal S512x512 .f32) (s : Fin 128) (v : EReal) :
    k0_pay15 seg x (ix2 0 s) ≤ v ↔ ∀ r k : Fin 512, seg (ix2 r 0) = BitVec.ofNat 32 s.val → x (ix2 r k) ≤ v := by
  have e : k0_pay15 seg x (ix2 0 s) = Finset.univ.fold max (⊥ : EReal) (fun r : Fin 512 =>
      Scalar.select (IntOp.cmpi .eq (seg (ix2 r 0)) (BitVec.ofNat 32 s.val)) (Finset.univ.fold max (⊥ : EReal) fun k : Fin 512 => x (ix2 r k)) ⊥) := by
    unfold k0_pay15 k0_pay12 k0_pay11
    rw [← ofBits_neg_inf]
    pointwise
  rw [e]
  exact masked_le (fun r : Fin 512 => seg (ix2 r 0)) _ (fun r k : Fin 512 => x (ix2 r k)) v

section running
variable (xb : ℕ → Vec Ideal S512x512 .f32) (seg : Vec Ideal S16384x1 .i32)

/-- What lies below the running minimum of segment `s`. -/
theorem le_stMin (s : Fin 128) (v : EReal) : ∀ t : ℕ, v ≤ stMin xb seg t (ix2 0 s)
    ↔ ∀ b ≤ t, ∀ r k : Fin 512, sblk seg b (ix2 r 0) = BitVec.ofNat 32 s.val → v ≤ xb b (ix2 r k)
  | 0 => by
    unfold stMin k0_pay16
    rw [shapeCast_id, le_pay14]
    exact ⟨fun h b hb => by obtain rfl : b = 0 := by omega
                            exact h, fun h => h 0 le_rfl⟩
  | t + 1 => by
    unfold stMin k0_pay18
    rw [shapeCast_id]
    show v ≤ min (stMin xb seg t (ix2 0 s)) (k0_pay14 (sblk seg (t + 1)) (xb (t + 1)) (ix2 0 s)) ↔ _
    rw [le_min_iff, le_pay14, le_stMin s v t]
    refine ⟨fun h b hb => ?_, fun h => ⟨fun b hb => h b (by omega), h (t + 1) le_rfl⟩⟩
    rcases Nat.lt_or_ge t b with hlt | hge
    · obtain rfl : b = t + 1 := by omega
      exact h.2
    · exact h.1 b hge

/-- What lies above the running maximum of segment `s`. -/
theorem stMax_le (s : Fin 128) (v : EReal) : ∀ t : ℕ, stMax xb seg t (ix2 0 s) ≤ v
    ↔ ∀ b ≤ t, ∀ r k : Fin 512, sblk seg b (ix2 r 0) = BitVec.ofNat 32 s.val → xb b (ix2 r k) ≤ v
  | 0 => by
    unfold stMax k0_pay17
    rw [shapeCast_id, pay15_le]
    exact ⟨fun h b hb => by obtain rfl : b = 0 := by omega
                            exact h, fun h => h 0 le_rfl⟩
  | t + 1 => by
    unfold stMax k0_pay19
    rw [shapeCast_id]
    show max (stMax xb seg t (ix2 0 s)) (k0_pay15 (sblk seg (t + 1)) (xb (t + 1)) (ix2 0 s)) ≤ v ↔ _
    rw [max_le_iff, pay15_le, stMax_le s v t]
    refine ⟨fun h b hb => ?_, fun h => ⟨fun b hb => h b (by omega), h (t + 1) le_rfl⟩⟩
    rcases Nat.lt_or_ge t b with hlt | hge
    · obtain rfl : b = t + 1 := by omega
      exact h.2
    · exact h.1 b hge

end running

/-- A one-hot sum is the chosen lane. -/
theorem sum_lane (w : BitVec 32) (s : Fin 128) (h : w = BitVec.ofNat 32 s.val) (f : Fin 128 → EReal) :
    ∑ l : Fin 128, Scalar.select (IntOp.cmpi .eq w (BitVec.ofNat 32 l.val)) (f l) 0 = f s := by
  subst h
  rw [Finset.sum_eq_single s]
  · rw [select_eq, if_pos rfl]
  · intro l _ hl
    rw [select_eq, if_neg]
    intro e
    have := congrArg BitVec.toNat e
    rw [BitVec.toNat_ofNat, BitVec.toNat_ofNat] at this
    exact hl (Fin.ext (by have := s.isLt; have := l.isLt; omega))
  · exact fun hs => absurd (Finset.mem_univ _) hs

/-- An element of a block that is written, where its row's number is `s`: the element less the segment's minimum, times
the reciprocal of the segment's padded width. -/
theorem pay9_apply (seg : Vec Ideal S512x1 .i32) (mn mx : Vec Ideal S1x128 .f32) (x : Vec Ideal S512x512 .f32) (r k : Fin 512)
    (s : Fin 128) (h : seg (ix2 r 0) = BitVec.ofNat 32 s.val) :
    k0_pay9 lanes seg mn mx x (ix2 r k)
      = ((x (ix2 r k) : EReal) - mn (ix2 0 s)) * Ideal.div 1 ((mx (ix2 0 s) : EReal) - mn (ix2 0 s) + FloatOps.ofBits (F := Ideal) .f32 0x358637BD#32) := by
  rw [← sum_lane _ s h fun l => Ideal.div 1 ((mx (ix2 0 l) : EReal) - mn (ix2 0 l) + FloatOps.ofBits (F := Ideal) .f32 0x358637BD#32),
    ← sum_lane _ s h fun l => (mn (ix2 0 l) : EReal)]
  unfold k0_pay9
  pointwise

/-- With a maximum at least the minimum, the padded width is not zero. -/
theorem width_ne {a b : EReal} (h : a ≤ b) : b - a + FloatOps.ofBits (F := Ideal) .f32 0x358637BD#32 ≠ (0 : EReal) := by
  obtain ⟨e, he, h'⟩ := ofBits_eps
  rw [h']
  induction a <;> induction b
  case coe.coe a b =>
    have : a ≤ b := EReal.coe_le_coe_iff.1 h
    have h2 : ((b - a + e : ℝ) : EReal) ≠ ((0 : ℝ) : EReal) := fun c => by have := EReal.coe_injective c; linarith
    exact_mod_cast h2
  all_goals simp_all

/-- Dividing by a width that is not zero is multiplying by its reciprocal. -/
theorem mul_div_one (a : EReal) {d : EReal} (h : d ≠ 0) : a * Ideal.div 1 d = Ideal.div a d := by
  unfold Ideal.div
  rw [if_neg h, if_neg h, one_mul]

end Cert.KernelIdeal.Blocks
-- ==== Proof.Reference.lean ====
module

public import proofs.«01_k».proof.Proof.Stats
public import proofs.«01_k».proof.Proof.Gen.ReferenceIdeal.Run
public import proofs.«01_k».proof.Proof.Gen.Pre_sorted_ids
public import Idealize.ShloMosaic.Lib.Pointwise
public import Idealize.ShloMosaic.Lib.ReduceAll
public import Idealize.ShloMosaic.Lib.Tactic.CleanTypes
public import Idealize.ShloMosaic.Lib.Routing.OpsSearch

/-!
# The reference, read at an element
-/

@[expose] public section

set_option maxRecDepth 16384

noncomputable section

namespace Cert.ReferenceIdeal.Blocks

open Cert.ReferenceIdeal Cert.ReferenceIdeal.Gen Cert.ReferenceIdeal.Value
open Idealize.ShloMosaic Idealize.ShloMosaic.TcCoe

variable (x : FVec Ideal S16384x512 .f32) (id : IVec S16384 32)

/-- The least element of each segment, as the reference computes it. -/
def least : FVec Ideal S16 .f32 :=
  Host.reduce FloatOps.minimumf (select (cmpi .eq (broadcastInDim S16x16384 ![0, 1] bcast_S1x16384_S16x16384_0_1 (broadcastInDim S1x16384 ![1] bcast_S16384_S1x16384_1 id))
      (broadcastInDim S16x16384 ![0, 1] bcast_S16x1_S16x16384_0_1 (broadcastInDim S16x1 ![0] bcast_S16_S16x1_0 (iotaInDim S16 32 0))))
    (broadcastInDim S16x16384 ![0, 1] bcast_S1x16384_S16x16384_0_1 (broadcastInDim S1x16384 ![1] bcast_S16384_S1x16384_1
      (Host.reduce FloatOps.minimumf x (constant S_ .f32 0x7F800000#32) reducesTo_S16384x512_S16384_d1 h_S_)))
    (broadcastInDim S16x16384 ![] bcast_S_S16x16384 (constant S_ .f32 0x7F800000#32))) (constant S_ .f32 0x7F800000#32) reducesTo_S16x16384_S16_d1 h_S_

/-- The greatest element of each segment, as the reference computes it. -/
def greatest : FVec Ideal S16 .f32 :=
  Host.reduce FloatOps.maximumf (select (cmpi .eq (broadcastInDim S16x16384 ![0, 1] bcast_S1x16384_S16x16384_0_1 (broadcastInDim S1x16384 ![1] bcast_S16384_S1x16384_1 id))
      (broadcastInDim S16x16384 ![0, 1] bcast_S16x1_S16x16384_0_1 (broadcastInDim S16x1 ![0] bcast_S16_S16x1_0 (iotaInDim S16 32 0))))
    (broadcastInDim S16x16384 ![0, 1] bcast_S1x16384_S16x16384_0_1 (broadcastInDim S1x16384 ![1] bcast_S16384_S1x16384_1
      (Host.reduce FloatOps.maximumf x (constant S_ .f32 0xFF800000#32) reducesTo_S16384x512_S16384_d1 h_S_)))
    (broadcastInDim S16x16384 ![] bcast_S_S16x16384 (constant S_ .f32 0xFF800000#32))) (constant S_ .f32 0xFF800000#32) reducesTo_S16x16384_S16_d1 h_S_

/-- The segment numbers as positions in a table, a negative one counted from its end. -/
def places : IVec S16384x1 32 :=
  broadcastInDim S16384x1 ![0] bcast_S16384_S16384x1_0 (select (cmpi .slt id (broadcastInDim S16384 ![] bcast_S_S16384 (constantI S_ 32 0#32)))
    (addi id (broadcastInDim S16384 ![] bcast_S_S16384 (constantI S_ 32 16#32))) id)

/-- A table of the segments, taken at each row's segment. -/
def taken (f : FVec Ideal S16 .f32) : FVec Ideal S16384 .f32 :=
  select (Host.reduce IntOp.andi (andi (cmpi .sge (places id) (broadcastInDim S16384x1 ![] bcast_S_S16384x1 (constantI S_ 32 0#32)))
      (cmpi .sle (places id) (broadcastInDim S16384x1 ![0, 1] bcast_S1x1_S16384x1_0_1 (broadcastInDim S1x1 ![1] bcast_S1_S1x1_1 (constantI S1 32 15#32)))))
      (constantI S_ 1 1#1) reducesTo_S16384x1_S16384_d1 h_S_)
    (Host.gather gather_S16_S16384x1_S16384_n_0_n_n_0_1_1 f (places id)) (broadcastInDim S16384 ![] bcast_S_S16384 (constant S_ .f32 0x7FC00000#32))

/-- What lies below a segment's least element. -/
theorem le_least (s : Fin 16) (v : EReal) :
    v ≤ least x id (ix1 s) ↔ ∀ (r : Fin 16384) (k : Fin 512), id (ix1 r) = BitVec.ofNat 32 s.val → v ≤ x (ix2 r k) := by
  have e : least x id (ix1 s) = Finset.univ.fold min (⊤ : EReal) (fun r : Fin 16384 =>
      Scalar.select (IntOp.cmpi .eq (id (ix1 r)) (BitVec.ofNat 32 s.val)) (Finset.univ.fold min (⊤ : EReal) fun k : Fin 512 => x (ix2 r k)) ⊤) := by
    unfold least
    rw [← KernelIdeal.Blocks.ofBits_inf]
    pointwise
  rw [e]
  exact KernelIdeal.Blocks.le_masked (fun r : Fin 16384 => id (ix1 r)) _ (fun (r : Fin 16384) (k : Fin 512) => x (ix2 r k)) v

/-- What lies above a segment's greatest element. -/
theorem greatest_le (s : Fin 16) (v : EReal) :
    greatest x id (ix1 s) ≤ v ↔ ∀ (r : Fin 16384) (k : Fin 512), id (ix1 r) = BitVec.ofNat 32 s.val → x (ix2 r k) ≤ v := by
  have e : greatest x id (ix1 s) = Finset.univ.fold max (⊥ : EReal) (fun r : Fin 16384 =>
      Scalar.select (IntOp.cmpi .eq (id (ix1 r)) (BitVec.ofNat 32 s.val)) (Finset.univ.fold max (⊥ : EReal) fun k : Fin 512 => x (ix2 r k)) ⊥) := by
    unfold greatest
    rw [← KernelIdeal.Blocks.ofBits_neg_inf]
    pointwise
  rw [e]
  exact KernelIdeal.Blocks.masked_le (fun r : Fin 16384 => id (ix1 r)) _ (fun (r : Fin 16384) (k : Fin 512) => x (ix2 r k)) v

/-- A row's position in the table is its segment number. -/
theorem places_apply (r : Fin 16384) (s : Fin 16) (h : id (ix1 r) = BitVec.ofNat 32 s.val) : places id (ix2 r 0) = BitVec.ofNat 32 s.val := by
  have e : places id (ix2 r 0) = Scalar.select (IntOp.cmpi .slt (id (ix1 r)) 0#32) (IntOp.addi (id (ix1 r)) 16#32) (id (ix1 r)) := by
    unfold places
    pointwise
  rw [e, h]
  clear e h
  revert s
  decide

/-- Where the row's segment number is in range, what is taken is the table's entry. -/
theorem taken_apply (f : FVec Ideal S16 .f32) (r : Fin 16384) (s : Fin 16) (h : id (ix1 r) = BitVec.ofNat 32 s.val) : taken id f (ix1 r) = f (ix1 s) := by
  have hp := places_apply id r s h
  have hg : Host.gather gather_S16_S16384x1_S16384_n_0_n_n_0_1_1 f (places id) (ix1 r) = f (ix1 s) := by
    have := Routing.take_ap gather_S16_S16384x1_S16384_n_0_n_n_0_1_1 rfl rfl rfl rfl f (places id) r s.isLt (by have := s.isLt; omega) hp
    exact this
  have hb : Host.reduce IntOp.andi (andi (cmpi .sge (places id) (broadcastInDim S16384x1 ![] bcast_S_S16384x1 (constantI S_ 32 0#32)))
      (cmpi .sle (places id) (broadcastInDim S16384x1 ![0, 1] bcast_S1x1_S16384x1_0_1 (broadcastInDim S1x1 ![1] bcast_S1_S1x1_1 (constantI S1 32 15#32)))))
      (constantI S_ 1 1#1) reducesTo_S16384x1_S16384_d1 h_S_ (ix1 r) = 1#1 := by
    pointwise
    rw [Finset.univ_unique, Finset.fold_singleton, show (default : Fin 1) = 0 from rfl, hp]
    clear h hp hg
    revert s
    decide
  unfold taken
  exact (congrArg₂ (fun b y => Scalar.select b y _) hb hg).trans (KernelIdeal.Blocks.select_set _ _)

/-- The reference's result, of its two arguments. -/
def normal : FVec Ideal S16384x512 .f32 :=
  Host.divf (subf x (broadcastInDim S16384x512 ![0, 1] bcast_S16384x1_S16384x512_0_1 (broadcastInDim S16384x1 ![0] bcast_S16384_S16384x1_0 (taken id (least x id)))))
    (broadcastInDim S16384x512 ![0, 1] bcast_S16384x1_S16384x512_0_1 (addf (subf (broadcastInDim S16384x1 ![0] bcast_S16384_S16384x1_0 (taken id (greatest x id)))
      (broadcastInDim S16384x1 ![0] bcast_S16384_S16384x1_0 (taken id (least x id)))) (broadcastInDim S16384x1 ![] bcast_S_S16384x1 (constant S_ .f32 0x358637BD#32))))

/-- An element in a row of segment `s`: the element less the segment's least, over the segment's padded width. -/
theorem normal_apply (r : Fin 16384) (k : Fin 512) (s : Fin 16) (h : id (ix1 r) = BitVec.ofNat 32 s.val) :
    normal x id (ix2 r k) = Ideal.div ((x (ix2 r k) : EReal) - least x id (ix1 s))
      ((greatest x id (ix1 s) : EReal) - least x id (ix1 s) + FloatOps.ofBits (F := Ideal) .f32 0x358637BD#32) := by
  rw [← taken_apply id (least x id) r s h, ← taken_apply id (greatest x id) r s h]
  unfold normal
  pointwise

/-- What the reference's run leaves in its result is `normal` of the arguments. -/
theorem result_eq (m : (ℓ : Loc nD τ sig) → Buf (Elt Ideal) ℓ) (c : Dev nD) :
    res_out0 m c = normal (m ((c : Thread nD τ).loc main_arg0)) (m ((c : Thread nD τ).loc main_arg1)) := by
  unfold res_out0 res_main_v24
  rfl

/-- What the precondition says: the segment numbers are in range and sorted. -/
theorem pre_apply (h : Pre_sorted_ids.fn (F := Ideal) x id = fun _ => 1#1) :
    (∀ r : Fin 16384, 0 ≤ (id (ix1 r)).toInt ∧ (id (ix1 r)).toInt < 16)
      ∧ ∀ r r' : Fin 16384, r.val + 1 = r'.val → (id (ix1 r)).toInt ≤ (id (ix1 r')).toInt := by
  have h' := congrFun h ix0
  unfold Pre_sorted_ids.fn at h'
  dsimp only at h'
  obtain ⟨h1, h3⟩ := IntOp.andi_eq_one.1 h'
  obtain ⟨h1, h2⟩ := IntOp.andi_eq_one.1 h1
  haveI : Subsingleton Pre_sorted_ids.S_.Idx := ⟨fun i j => funext fun a => a.elim0⟩
  refine ⟨fun r => ⟨?_, ?_⟩, fun r r' e => ?_⟩
  · exact IntOp.cmpi_sge.1 (Host.reduce_andi_all _ _ _ _ _ h1 (ix1 r))
  · exact IntOp.cmpi_slt.1 (Host.reduce_andi_all _ _ _ _ _ h2 (ix1 r))
  · have h4 := Host.reduce_andi_all _ _ _ _ _ h3 (ix1 ⟨r.val, by have := r'.isLt; omega⟩ : Pre_sorted_ids.S16383.Idx)
    have e1 : (ix1 r : S16384.Idx) = ix1 ⟨0 + r.val, by have := r.isLt; omega⟩ := congrArg ix1 (Fin.ext (Nat.zero_add _).symm)
    have e2 : (ix1 r' : S16384.Idx) = ix1 ⟨1 + r.val, by have := r'.isLt; omega⟩ := congrArg ix1 (Fin.ext (show r'.val = 1 + r.val by omega))
    have h5 := IntOp.cmpi_sle.1 h4
    rw [e1, e2]
    revert h5
    pointwise
    exact fun h => h

end Cert.ReferenceIdeal.Blocks
-- ==== Proof.Equal.lean ====
module

public import proofs.«01_k».proof.Proof.Run
public import proofs.«01_k».proof.Proof.Sorted
public import proofs.«01_k».proof.Proof.Reference
public import Idealize.ShloMosaic.Lib.Claim
public import Idealize.ShloMosaic.Lib.WordCmp

/-!
# The kernel's result is the reference's

Over the extended reals, where the segment numbers are sorted and in range.
-/

@[expose] public section

set_option maxRecDepth 16384

noncomputable section

namespace Cert.KernelIdeal.Blocks

open Cert.KernelIdeal Cert.KernelIdeal.Gen
open Idealize.ShloMosaic Idealize.ShloMosaic.TcCoe
open Cert.ReferenceIdeal.Blocks (least greatest normal le_least greatest_le normal_apply pre_apply)

section
variable (xb : ℕ → Vec Ideal S512x512 .f32) (seg : Vec Ideal S16384x1 .i32) (x : FVec Ideal S16384x512 .f32) (id : IVec S16384 32)
  (hx : ∀ (b : ℕ) (j k : Fin 512), xb b (ix2 j k) = x (ix2 (row b j) k)) (hid : ∀ r : Fin 16384, num seg r = id (ix1 r))
  (hs : ∀ r r' : Fin 16384, r.val ≤ r'.val → (num seg r).toInt ≤ (num seg r').toInt)
include hx hid hs

/-- What holds of every element of a segment seen when row `r`'s block is written out, `r` a row of it, holds of every element of the segment. -/
theorem all_seen (P : EReal → Prop) (r : Fin 16384) (s : Fin 16) (h : id (ix1 r) = BitVec.ofNat 32 s.val) :
    (∀ b ≤ writtenAt (sblk seg) (r.val / 512), ∀ j k : Fin 512, sblk seg b (ix2 j 0) = BitVec.ofNat 32 s.val → P (xb b (ix2 j k)))
      ↔ ∀ (r' : Fin 16384) (k : Fin 512), id (ix1 r') = BitVec.ofNat 32 s.val → P (x (ix2 r' k)) := by
  constructor
  · intro H r' k h'
    have := H (r'.val / 512) (complete seg hs r r' (by rw [hid, hid, h, h'])) ⟨r'.val % 512, Nat.mod_lt _ (by decide)⟩ k
      (by rw [sblk_apply]; exact (congrArg (num seg) (row_split r')).trans ((hid r').trans h'))
    rwa [hx, row_split] at this
  · intro H b _ j k e
    rw [hx]
    refine H _ k ?_
    rw [← hid, ← e, sblk_apply]
    rfl

/-- The running minimum of a row's segment, when the row's block is written out, is the segment's least element. -/
theorem stMin_eq (r : Fin 16384) (s : Fin 16) (h : id (ix1 r) = BitVec.ofNat 32 s.val) :
    (stMin xb seg (writtenAt (sblk seg) (r.val / 512)) (ix2 0 (s.castLE (by decide))) : EReal) = least x id (ix1 s) :=
  eq_of_forall_le_iff fun v => (le_stMin xb seg _ v _).trans
    ((all_seen xb seg x id hx hid hs (fun y => v ≤ y) r s h).trans (le_least x id s v).symm)

/-- The running maximum of a row's segment, when the row's block is written out, is the segment's greatest element. -/
theorem stMax_eq (r : Fin 16384) (s : Fin 16) (h : id (ix1 r) = BitVec.ofNat 32 s.val) :
    (stMax xb seg (writtenAt (sblk seg) (r.val / 512)) (ix2 0 (s.castLE (by decide))) : EReal) = greatest x id (ix1 s) :=
  eq_of_forall_ge_iff fun v => (stMax_le xb seg _ v _).trans
    ((all_seen xb seg x id hx hid hs (fun y => y ≤ v) r s h).trans (greatest_le x id s v).symm)

/-- The kernel's result, in a row of segment `s`, is the reference's. -/
theorem outG_apply (r : Fin 16384) (k : Fin 512) (s : Fin 16) (h : id (ix1 r) = BitVec.ofNat 32 s.val) :
    outG xb seg (ix2 r k) = normal x id (ix2 r k) := by
  have hsb : sblk seg (r.val / 512) (ix2 (⟨r.val % 512, Nat.mod_lt _ (by decide)⟩ : Fin 512) 0) = BitVec.ofNat 32 (s.castLE (by decide : 16 ≤ 128)).val := by
    rw [sblk_apply]
    exact (congrArg (num seg) (row_split r)).trans ((hid r).trans h)
  have hle : (least x id (ix1 s) : EReal) ≤ greatest x id (ix1 s) :=
    ((le_least x id s _).1 le_rfl r k h).trans ((greatest_le x id s _).1 le_rfl r k h)
  show k0_pay9 lanes (sblk seg (r.val / 512)) (stMin xb seg (writtenAt (sblk seg) (r.val / 512))) (stMax xb seg (writtenAt (sblk seg) (r.val / 512))) (xb (r.val / 512)) (ix2 (⟨r.val % 512, Nat.mod_lt _ (by decide)⟩ : Fin 512) k) = _
  rw [pay9_apply _ _ _ _ _ k _ hsb, stMin_eq xb seg x id hx hid hs r s h, stMax_eq xb seg x id hx hid hs r s h, hx, row_split,
    normal_apply x id r k s h, mul_div_one _ (width_ne hle)]

end

/-- Neighbouring rows in order, all rows in order. -/
theorem sorted_of_step (f : Fin 16384 → ℤ) (h : ∀ r r' : Fin 16384, r.val + 1 = r'.val → f r ≤ f r') :
    ∀ r r' : Fin 16384, r.val ≤ r'.val → f r ≤ f r' := by
  intro r ⟨n, hn⟩ hle
  induction n with
  | zero => exact le_of_eq (congrArg f (Fin.ext (show r.val = 0 from Nat.le_zero.1 hle)))
  | succ n ih =>
    rcases Nat.lt_or_ge r.val (n + 1) with hlt | hge
    · exact (ih (by omega) (Nat.lt_succ_iff.1 hlt)).trans (h _ _ rfl)
    · exact le_of_eq (congrArg f (Fin.ext (show r.val = n + 1 from le_antisymm hle hge)))

/-- A word in range is a segment's number. -/
theorem eq_ofNat {w : BitVec 32} (h0 : 0 ≤ w.toInt) (h1 : w.toInt < 16) : ∃ s : Fin 16, w = BitVec.ofNat 32 s.val := by
  refine ⟨⟨w.toInt.toNat, by omega⟩, BitVec.eq_of_toInt_eq ?_⟩
  have e : (BitVec.ofNat 32 w.toInt.toNat).toInt = (w.toInt.toNat : ℤ) := WordCmp.toInt_ofNat_of_lt (by show w.toInt.toNat < 2 ^ 31; omega)
  exact (Int.toNat_of_nonneg h0).symm.trans e.symm

variable (m : (ℓ : Loc nD τ sig) → Buf (Elt Ideal) ℓ) (c : Dev nD)

/-- The segment numbers the grid finds are the second argument's. -/
theorem argSeg_apply (r : Fin 16384) : num (argSeg m c) r = (m ((c : Thread nD τ).loc main_arg1) : IVec S16384 32) (ix1 r) := by
  unfold num argSeg
  entry_read
  pointwise

/-- Under the precondition, the kernel's result is the reference's function of the arguments. -/
theorem result_eq (h : Pre_sorted_ids.fn (F := Ideal) (m ((c : Thread nD τ).loc main_arg0)) (m ((c : Thread nD τ).loc main_arg1)) = fun _ => 1#1) :
    result m c = normal (m ((c : Thread nD τ).loc main_arg0)) (m ((c : Thread nD τ).loc main_arg1)) := by
  obtain ⟨hr, hstep⟩ := pre_apply _ _ h
  have hid := argSeg_apply m c
  funext i
  obtain ⟨s, hs⟩ := eq_ofNat (hr (i 0)).1 (hr (i 0)).2
  have := outG_apply (argX m c) (argSeg m c) _ _ (fun b j k => rfl) hid
    (sorted_of_step (fun r => (num (argSeg m c) r).toInt) fun r r' e => by rw [hid, hid]; exact hstep r r' e) (i 0) (i 1) s hs
  have hi : (ix2 (i 0) (i 1) : S16384x512.Idx) = i := by
    funext a
    match a with
    | ⟨0, _⟩ => rfl
    | ⟨1, _⟩ => rfl
  rwa [hi] at this

end Cert.KernelIdeal.Blocks
-- ==== Proof.lean ====
theorem Cert.Proof.equal : Cert.algebraic_KernelIdeal_ReferenceIdeal_pre_sorted_ids := fun m g m' g' hpre hargs =>
  ⟨fun c => Cert.KernelIdeal.Blocks.result m c,
    (θ_run Cert.KernelIdeal.defs _ _).mono (fun _ h => h.1) (Cert.KernelIdeal.Blocks.run m g),
    (θ_run Cert.ReferenceIdeal.defs _ _).mono (fun r h c => ⟨(h c).1.trans <| by
        have e := Cert.ReferenceIdeal.Blocks.result_eq m' c
        rw [(hargs c).1, (hargs c).2] at e
        exact e.trans (Cert.KernelIdeal.Blocks.result_eq m c (hpre c)).symm, (h c).2⟩)
      (Cert.ReferenceIdeal.Value.run (F := Ideal) m' g')⟩

/-- Everything claimed. -/
theorem Cert.Proof.claim : Cert.Claim`; how it gets there is its own business
   (idealize/tests/proofs/02_vector_ops proves a bit-exact claim, 04_loops a frame). The witnesses of
   the programs' stated facts come first: the instances the generated Proof/Gen/ modules prove.
   Its author proves each claim OR witnesses that one is false. If a `holds`, `bitexact`, or `algebraic` claim
   fails at some input, do not weaken the claim until it holds: in `test_<name>.py` state
   `proofs.disproves(claim, *arrays)` in its place, with that input as `arrays`; run
   `python test_<name>.py regen`; and prove the disproof here (this file is not rewritten, and the claim to
   prove changes: a disproof adds no frame). A `frame`, `conforms` or `preserves` claim has no disproof.
   idealize/tests/proofs/README.md, "A value claim that is FALSE", says how; 02_vector_ops
   `Proof/Disproof.lean` and 10_ideal_fields `Proof/Widths.lean` are worked examples. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_sorted_ids
public import proofs.«01_k».proof.Proof.Run
public import proofs.«01_k».proof.Proof.Equal
public import Idealize.ShloMosaic.Adequacy
public import Idealize.ShloMosaic.Init

@[expose] public section

noncomputable section

open Idealize.ShloMosaic Idealize.SL.Sem

/-- The run with its arguments and semaphores, at any float values. -/
theorem Cert.Proof.frame {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => (h.1 c).2, h.2⟩) (Cert.KernelIdeal.Blocks.run m g)

/-- The printed kernel's body is the idealized print's: no operation was rewritten. -/
theorem Cert.Proof.body_eq {F : FTy → Type} [FloatOps F] : Cert.Kernel.cc0__body (F := F) = Cert.KernelIdeal.cc0__body (F := F) := rfl

/-- So are their tables of bodies. -/
theorem Cert.Proof.defs_eq {F : FTy → Type} [FloatOps F] : Cert.Kernel.defs (F := F) = Cert.KernelIdeal.defs (F := F) := by
  refine congrArg (Pipeline.defs _) ?_
  unfold Cert.Kernel.defs₀ Cert.KernelIdeal.defs₀
  refine congrArg Defs.onTc (funext fun l => funext fun a => ?_)
  match l, a with
  | 0, (t, s) => rfl

/-- The kernel as printed runs, at the device's own float values. -/
theorem Cert.Proof.frame_kernel : Cert.quiescent_Kernel := fun m g _ => by
  rw [Cert.Proof.defs_eq]
  exact Cert.Proof.frame (F := Bits) m g

/-- The kernel over the extended reals runs. -/
theorem Cert.Proof.frame_ideal : Cert.quiescent_KernelIdeal := fun m g _ => Cert.Proof.frame (F := Ideal) m g

/-- The reference over the extended reals runs. -/
theorem Cert.Proof.frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Over the extended reals, where the segment numbers are sorted and in range, the kernel and the reference leave the same result. -/
theorem Cert.Proof.equal : Cert.algebraic_KernelIdeal_ReferenceIdeal_pre_sorted_ids := fun m g m' g' hpre hargs =>
  ⟨fun c => Cert.KernelIdeal.Blocks.result m c,
    (θ_run Cert.KernelIdeal.defs _ _).mono (fun _ h => h.1) (Cert.KernelIdeal.Blocks.run m g),
    (θ_run Cert.ReferenceIdeal.defs _ _).mono (fun r h c => ⟨(h c).1.trans <| by
        have e := Cert.ReferenceIdeal.Blocks.result_eq m' c
        rw [(hargs c).1, (hargs c).2] at e
        exact e.trans (Cert.KernelIdeal.Blocks.result_eq m c (hpre c)).symm, (h c).2⟩)
      (Cert.ReferenceIdeal.Value.run (F := Ideal) m' g')⟩

/-- Everything claimed. -/
theorem Cert.Proof.claim : Cert.Claim :=
  ⟨Cert.Kernel.Gen.facts, Cert.KernelIdeal.Gen.facts, Cert.ReferenceIdeal.Gen.facts, Cert.Pre_sorted_ids.Gen.facts,
    Cert.Proof.frame_kernel, Cert.Proof.frame_ideal, fun m g _ => Cert.Proof.frame_ideal m g trivial,
    Cert.Proof.frame_reference, fun m g _ => Cert.Proof.frame_reference m g trivial, trivial, Cert.Proof.equal⟩
